-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![8192, 512]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S4096x512 .bf16) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  main_v4
-- ==== Pre_ids_in_range_ReferenceIdeal.lean ====
abbrev S512 : Shape := ⟨1, ![512]⟩
abbrev S8192x512 : Shape := ⟨2, ![8192, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S8192x512 .bf16) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  main_v4
-- ==== Kernel.lean ====
abbrev S512 : Shape := ⟨1, ![512]⟩
abbrev S4096x512 : Shape := ⟨2, ![4096, 512]⟩
abbrev S_ : Shape := ⟨0, ![]⟩
abbrev S512x1 : Shape := ⟨2, ![512, 1]⟩
abbrev S1 : Shape := ⟨1, ![1]⟩
abbrev S1x1 : Shape := ⟨2, ![1, 1]⟩
abbrev S512x512 : Shape := ⟨2, ![512, 512]⟩
abbrev S32x512 : Shape := ⟨2, ![32, 512]⟩
abbrev S33 : Shape := ⟨1, ![33]⟩
abbrev S512x32 : Shape := ⟨2, ![512, 32]⟩
abbrev S16x512 : Shape := ⟨2, ![16, 512]⟩
abbrev S32 : Shape := ⟨1, ![32]⟩
abbrev S32x1 : Shape := ⟨2, ![32, 1]⟩

abbrev nBuf : Space → Nat
  | .hbm => 49
  | .vmem => 9
  | .smem => 0
  | _ => 0

abbrev bufTy : (tb : Table) → Fin (tcTables nBuf tb) → BufTy
  | .hbm, ⟨0, _⟩ => ⟨S512, .i32⟩
  | .hbm, ⟨1, _⟩ => ⟨S4096x512, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i1⟩
  | .hbm, ⟨19, _⟩ => ⟨S_, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S1, .i32⟩
  | .hbm, ⟨32, _⟩ => ⟨S_, .i32⟩
  | .hbm, ⟨33, _⟩ => ⟨S512x1, .i32⟩
  | .hbm, ⟨34, _⟩ => ⟨S512x1, .i1⟩
  | .hbm, ⟨35, _⟩ => ⟨S1x1, .i32⟩
  | .hbm, ⟨36, _⟩ => ⟨S512x1, .i32⟩
  | .hbm, ⟨37, _⟩ => ⟨S512x1, .i1⟩
  | .hbm, ⟨38, _⟩ => ⟨S512x1, .i1⟩
  | .hbm, ⟨39, _⟩ => ⟨S_, .i1⟩
  | .hbm, ⟨40, _⟩ => ⟨S512, .i1⟩
  | .hbm, ⟨41, _⟩ => ⟨S512x512, .bf16⟩
  | .hbm, ⟨42, _⟩ => ⟨S512x512, .i1⟩
  | .hbm, ⟨43, _⟩ => ⟨S_, .bf16⟩
  | .hbm, ⟨44, _⟩ => ⟨S512x512, .bf16⟩
  | .hbm, ⟨45, _⟩ => ⟨S512x512, .bf16⟩
  | .hbm, ⟨46, _⟩ => ⟨S512, .i32⟩
  | .hbm, ⟨47, _⟩ => ⟨S512x1, .i32⟩
  | .hbm, ⟨48, _⟩ => ⟨S512x512, .f32⟩
  | .local _ .vmem, ⟨0, _⟩ => ⟨S512x1, .i32⟩
  | .local _ .vmem, ⟨1, _⟩ => ⟨S512x512, .bf16⟩
  | .local _ .vmem, ⟨2, _⟩ => ⟨S512x512, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S32x512, .f32⟩
  | .local _ .vmem, ⟨7, _⟩ => ⟨S32x512, .f32⟩
  | .local _ .vmem, ⟨8, _⟩ => ⟨S32x512, .f32⟩
  | _, _ => ⟨S512, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 135 → Bool
  | ⟨i, _⟩ => dmaSemScopedAt i

abbrev sig : RefSig :=
  (ofTc nBuf bufTy 2 135 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_25 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_24 : BitVec 32 := 16#32
  let v80 : BitVec 32 := Scalar.muli v9 c16_i32_24
  let v81 : BitVec 32 := Scalar.addi c0_i32_25 v80
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v82 : BitVec 32 := Scalar.muli v5 c4_i32_26
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v84 : BitVec 32 := Scalar.muli v8 c1_i32_27
  let v85 : BitVec 32 := Scalar.addi v83 v84
  v85.toNat
def k0_dev2 (d0 : Dev nD) : Nat :=
  let c0_i32_32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_31 : BitVec 32 := 16#32
  let v86 : BitVec 32 := Scalar.muli v9 c16_i32_31
  let v87 : BitVec 32 := Scalar.addi c0_i32_32 v86
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_33 : BitVec 32 := 4#32
  let v88 : BitVec 32 := Scalar.muli v5 c4_i32_33
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v90 : BitVec 32 := Scalar.muli v8 c1_i32_34
  let v91 : BitVec 32 := Scalar.addi v89 v90
  v91.toNat
def k0_dev3 (d0 : Dev nD) : Nat :=
  let c0_i32_42 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_41 : BitVec 32 := 16#32
  let v98 : BitVec 32 := Scalar.muli v9 c16_i32_41
  let v99 : BitVec 32 := Scalar.addi c0_i32_42 v98
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v100 : BitVec 32 := Scalar.muli v5 c4_i32_43
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v102 : BitVec 32 := Scalar.muli v8 c1_i32_44
  let v103 : BitVec 32 := Scalar.addi v101 v102
  v103.toNat
def k0_dev4 (d0 : Dev nD) : Nat :=
  let c0_i32_52 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_51 : BitVec 32 := 16#32
  let v110 : BitVec 32 := Scalar.muli v9 c16_i32_51
  let v111 : BitVec 32 := Scalar.addi c0_i32_52 v110
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v112 : BitVec 32 := Scalar.muli v5 c4_i32_53
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v114 : BitVec 32 := Scalar.muli v8 c1_i32_54
  let v115 : BitVec 32 := Scalar.addi v113 v114
  v115.toNat
def k0_dev5 (d0 : Dev nD) : Nat :=
  let c0_i32_60 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_59 : BitVec 32 := 16#32
  let v122 : BitVec 32 := Scalar.muli v9 c16_i32_59
  let v123 : BitVec 32 := Scalar.addi c0_i32_60 v122
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_61 : BitVec 32 := 4#32
  let v124 : BitVec 32 := Scalar.muli v5 c4_i32_61
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v126 : BitVec 32 := Scalar.muli v8 c1_i32_62
  let v127 : BitVec 32 := Scalar.addi v125 v126
  v127.toNat
def k0_dev6 (d0 : Dev nD) : Nat :=
  let c0_i32_69 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_68 : BitVec 32 := 16#32
  let v134 : BitVec 32 := Scalar.muli v9 c16_i32_68
  let v135 : BitVec 32 := Scalar.addi c0_i32_69 v134
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v136 : BitVec 32 := Scalar.muli v5 c4_i32_70
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v138 : BitVec 32 := Scalar.muli v8 c1_i32_71
  let v139 : BitVec 32 := Scalar.addi v137 v138
  v139.toNat
def k0_dev7 (d0 : Dev nD) : Nat :=
  let c0_i32_77 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_76 : BitVec 32 := 16#32
  let v146 : BitVec 32 := Scalar.muli v9 c16_i32_76
  let v147 : BitVec 32 := Scalar.addi c0_i32_77 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_78 : BitVec 32 := 4#32
  let v148 : BitVec 32 := Scalar.muli v5 c4_i32_78
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v150 : BitVec 32 := Scalar.muli v8 c1_i32_79
  let v151 : BitVec 32 := Scalar.addi v149 v150
  v151.toNat
def k0_dev8 (d0 : Dev nD) : Nat :=
  let c0_i32_85 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_84 : BitVec 32 := 16#32
  let v158 : BitVec 32 := Scalar.muli v9 c16_i32_84
  let v159 : BitVec 32 := Scalar.addi c0_i32_85 v158
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_86 : BitVec 32 := 4#32
  let v160 : BitVec 32 := Scalar.muli v5 c4_i32_86
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v162 : BitVec 32 := Scalar.muli v8 c1_i32_87
  let v163 : BitVec 32 := Scalar.addi v161 v162
  v163.toNat
def k0_dev9 (d0 : Dev nD) : Nat :=
  let c0_i32_93 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_92 : BitVec 32 := 16#32
  let v170 : BitVec 32 := Scalar.muli v9 c16_i32_92
  let v171 : BitVec 32 := Scalar.addi c0_i32_93 v170
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_94 : BitVec 32 := 4#32
  let v172 : BitVec 32 := Scalar.muli v5 c4_i32_94
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v174 : BitVec 32 := Scalar.muli v8 c1_i32_95
  let v175 : BitVec 32 := Scalar.addi v173 v174
  v175.toNat
def k0_dev10 (d0 : Dev nD) : Nat :=
  let c0_i32_101 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_100 : BitVec 32 := 16#32
  let v182 : BitVec 32 := Scalar.muli v9 c16_i32_100
  let v183 : BitVec 32 := Scalar.addi c0_i32_101 v182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_102 : BitVec 32 := 4#32
  let v184 : BitVec 32 := Scalar.muli v5 c4_i32_102
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v186 : BitVec 32 := Scalar.muli v8 c1_i32_103
  let v187 : BitVec 32 := Scalar.addi v185 v186
  v187.toNat
def k0_dev11 (d0 : Dev nD) : Nat :=
  let c0_i32_109 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_108 : BitVec 32 := 16#32
  let v194 : BitVec 32 := Scalar.muli v9 c16_i32_108
  let v195 : BitVec 32 := Scalar.addi c0_i32_109 v194
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_110 : BitVec 32 := 4#32
  let v196 : BitVec 32 := Scalar.muli v5 c4_i32_110
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v198 : BitVec 32 := Scalar.muli v8 c1_i32_111
  let v199 : BitVec 32 := Scalar.addi v197 v198
  v199.toNat
def k0_dev12 (d0 : Dev nD) : Nat :=
  let c0_i32_117 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_116 : BitVec 32 := 16#32
  let v206 : BitVec 32 := Scalar.muli v9 c16_i32_116
  let v207 : BitVec 32 := Scalar.addi c0_i32_117 v206
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_118 : BitVec 32 := 4#32
  let v208 : BitVec 32 := Scalar.muli v5 c4_i32_118
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_119 : BitVec 32 := 1#32
  let v210 : BitVec 32 := Scalar.muli v8 c1_i32_119
  let v211 : BitVec 32 := Scalar.addi v209 v210
  v211.toNat
def k0_dev13 (d0 : Dev nD) : Nat :=
  let c0_i32_125 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_124 : BitVec 32 := 16#32
  let v218 : BitVec 32 := Scalar.muli v9 c16_i32_124
  let v219 : BitVec 32 := Scalar.addi c0_i32_125 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_126 : BitVec 32 := 4#32
  let v220 : BitVec 32 := Scalar.muli v5 c4_i32_126
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v222 : BitVec 32 := Scalar.muli v8 c1_i32_127
  let v223 : BitVec 32 := Scalar.addi v221 v222
  v223.toNat
def k0_dev14 (d0 : Dev nD) : Nat :=
  let c0_i32_133 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_132 : BitVec 32 := 16#32
  let v230 : BitVec 32 := Scalar.muli v9 c16_i32_132
  let v231 : BitVec 32 := Scalar.addi c0_i32_133 v230
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_134 : BitVec 32 := 4#32
  let v232 : BitVec 32 := Scalar.muli v5 c4_i32_134
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v234 : BitVec 32 := Scalar.muli v8 c1_i32_135
  let v235 : BitVec 32 := Scalar.addi v233 v234
  v235.toNat
def k0_dev15 (d0 : Dev nD) : Nat :=
  let c0_i32_141 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_140 : BitVec 32 := 16#32
  let v242 : BitVec 32 := Scalar.muli v9 c16_i32_140
  let v243 : BitVec 32 := Scalar.addi c0_i32_141 v242
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_142 : BitVec 32 := 4#32
  let v244 : BitVec 32 := Scalar.muli v5 c4_i32_142
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v246 : BitVec 32 := Scalar.muli v8 c1_i32_143
  let v247 : BitVec 32 := Scalar.addi v245 v246
  v247.toNat
def k0_dev16 (d0 : Dev nD) : Nat :=
  let c0_i32_149 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_148 : BitVec 32 := 16#32
  let v254 : BitVec 32 := Scalar.muli v9 c16_i32_148
  let v255 : BitVec 32 := Scalar.addi c0_i32_149 v254
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_150 : BitVec 32 := 4#32
  let v256 : BitVec 32 := Scalar.muli v5 c4_i32_150
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v258 : BitVec 32 := Scalar.muli v8 c1_i32_151
  let v259 : BitVec 32 := Scalar.addi v257 v258
  v259.toNat
def k0_dev17 (d0 : Dev nD) : Nat :=
  let c0_i32_157 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_156 : BitVec 32 := 16#32
  let v266 : BitVec 32 := Scalar.muli v9 c16_i32_156
  let v267 : BitVec 32 := Scalar.addi c0_i32_157 v266
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_158 : BitVec 32 := 4#32
  let v268 : BitVec 32 := Scalar.muli v5 c4_i32_158
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_159 : BitVec 32 := 1#32
  let v270 : BitVec 32 := Scalar.muli v8 c1_i32_159
  let v271 : BitVec 32 := Scalar.addi v269 v270
  v271.toNat
def k0_dev18 (d0 : Dev nD) : Nat :=
  let c0_i32_166 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_165 : BitVec 32 := 16#32
  let v278 : BitVec 32 := Scalar.muli v9 c16_i32_165
  let v279 : BitVec 32 := Scalar.addi c0_i32_166 v278
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_167 : BitVec 32 := 4#32
  let v280 : BitVec 32 := Scalar.muli v5 c4_i32_167
  let v281 : BitVec 32 := Scalar.addi v279 v280
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_168 : BitVec 32 := 1#32
  let v282 : BitVec 32 := Scalar.muli v8 c1_i32_168
  let v283 : BitVec 32 := Scalar.addi v281 v282
  v283.toNat
def k0_dev19 (d0 : Dev nD) : Nat :=
  let c0_i32_174 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_173 : BitVec 32 := 16#32
  let v290 : BitVec 32 := Scalar.muli v9 c16_i32_173
  let v291 : BitVec 32 := Scalar.addi c0_i32_174 v290
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_175 : BitVec 32 := 4#32
  let v292 : BitVec 32 := Scalar.muli v5 c4_i32_175
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v294 : BitVec 32 := Scalar.muli v8 c1_i32_176
  let v295 : BitVec 32 := Scalar.addi v293 v294
  v295.toNat
def k0_dev20 (d0 : Dev nD) : Nat :=
  let c0_i32_182 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_181 : BitVec 32 := 16#32
  let v302 : BitVec 32 := Scalar.muli v9 c16_i32_181
  let v303 : BitVec 32 := Scalar.addi c0_i32_182 v302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_183 : BitVec 32 := 4#32
  let v304 : BitVec 32 := Scalar.muli v5 c4_i32_183
  let v305 : BitVec 32 := Scalar.addi v303 v304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v306 : BitVec 32 := Scalar.muli v8 c1_i32_184
  let v307 : BitVec 32 := Scalar.addi v305 v306
  v307.toNat
def k0_dev21 (d0 : Dev nD) : Nat :=
  let c0_i32_190 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_189 : BitVec 32 := 16#32
  let v314 : BitVec 32 := Scalar.muli v9 c16_i32_189
  let v315 : BitVec 32 := Scalar.addi c0_i32_190 v314
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_191 : BitVec 32 := 4#32
  let v316 : BitVec 32 := Scalar.muli v5 c4_i32_191
  let v317 : BitVec 32 := Scalar.addi v315 v316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_192 : BitVec 32 := 1#32
  let v318 : BitVec 32 := Scalar.muli v8 c1_i32_192
  let v319 : BitVec 32 := Scalar.addi v317 v318
  v319.toNat
def k0_dev22 (d0 : Dev nD) : Nat :=
  let c0_i32_198 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_197 : BitVec 32 := 16#32
  let v326 : BitVec 32 := Scalar.muli v9 c16_i32_197
  let v327 : BitVec 32 := Scalar.addi c0_i32_198 v326
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_199 : BitVec 32 := 4#32
  let v328 : BitVec 32 := Scalar.muli v5 c4_i32_199
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v330 : BitVec 32 := Scalar.muli v8 c1_i32_200
  let v331 : BitVec 32 := Scalar.addi v329 v330
  v331.toNat
def k0_dev23 (d0 : Dev nD) : Nat :=
  let c0_i32_206 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_205 : BitVec 32 := 16#32
  let v338 : BitVec 32 := Scalar.muli v9 c16_i32_205
  let v339 : BitVec 32 := Scalar.addi c0_i32_206 v338
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_207 : BitVec 32 := 4#32
  let v340 : BitVec 32 := Scalar.muli v5 c4_i32_207
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v342 : BitVec 32 := Scalar.muli v8 c1_i32_208
  let v343 : BitVec 32 := Scalar.addi v341 v342
  v343.toNat
def k0_dev24 (d0 : Dev nD) : Nat :=
  let c0_i32_214 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_213 : BitVec 32 := 16#32
  let v350 : BitVec 32 := Scalar.muli v9 c16_i32_213
  let v351 : BitVec 32 := Scalar.addi c0_i32_214 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_215 : BitVec 32 := 4#32
  let v352 : BitVec 32 := Scalar.muli v5 c4_i32_215
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_216 : BitVec 32 := 1#32
  let v354 : BitVec 32 := Scalar.muli v8 c1_i32_216
  let v355 : BitVec 32 := Scalar.addi v353 v354
  v355.toNat
def k0_dev25 (d0 : Dev nD) : Nat :=
  let c0_i32_222 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_221 : BitVec 32 := 16#32
  let v362 : BitVec 32 := Scalar.muli v9 c16_i32_221
  let v363 : BitVec 32 := Scalar.addi c0_i32_222 v362
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_223 : BitVec 32 := 4#32
  let v364 : BitVec 32 := Scalar.muli v5 c4_i32_223
  let v365 : BitVec 32 := Scalar.addi v363 v364
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_224 : BitVec 32 := 1#32
  let v366 : BitVec 32 := Scalar.muli v8 c1_i32_224
  let v367 : BitVec 32 := Scalar.addi v365 v366
  v367.toNat
def k0_dev26 (d0 : Dev nD) : Nat :=
  let c0_i32_230 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_229 : BitVec 32 := 16#32
  let v374 : BitVec 32 := Scalar.muli v9 c16_i32_229
  let v375 : BitVec 32 := Scalar.addi c0_i32_230 v374
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_231 : BitVec 32 := 4#32
  let v376 : BitVec 32 := Scalar.muli v5 c4_i32_231
  let v377 : BitVec 32 := Scalar.addi v375 v376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v378 : BitVec 32 := Scalar.muli v8 c1_i32_232
  let v379 : BitVec 32 := Scalar.addi v377 v378
  v379.toNat
def k0_dev27 (d0 : Dev nD) : Nat :=
  let c0_i32_238 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_237 : BitVec 32 := 16#32
  let v386 : BitVec 32 := Scalar.muli v9 c16_i32_237
  let v387 : BitVec 32 := Scalar.addi c0_i32_238 v386
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_239 : BitVec 32 := 4#32
  let v388 : BitVec 32 := Scalar.muli v5 c4_i32_239
  let v389 : BitVec 32 := Scalar.addi v387 v388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v390 : BitVec 32 := Scalar.muli v8 c1_i32_240
  let v391 : BitVec 32 := Scalar.addi v389 v390
  v391.toNat
def k0_dev28 (d0 : Dev nD) : Nat :=
  let c0_i32_246 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_245 : BitVec 32 := 16#32
  let v398 : BitVec 32 := Scalar.muli v9 c16_i32_245
  let v399 : BitVec 32 := Scalar.addi c0_i32_246 v398
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_247 : BitVec 32 := 4#32
  let v400 : BitVec 32 := Scalar.muli v5 c4_i32_247
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v402 : BitVec 32 := Scalar.muli v8 c1_i32_248
  let v403 : BitVec 32 := Scalar.addi v401 v402
  v403.toNat
def k0_dev29 (d0 : Dev nD) : Nat :=
  let c0_i32_254 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_253 : BitVec 32 := 16#32
  let v410 : BitVec 32 := Scalar.muli v9 c16_i32_253
  let v411 : BitVec 32 := Scalar.addi c0_i32_254 v410
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_255 : BitVec 32 := 4#32
  let v412 : BitVec 32 := Scalar.muli v5 c4_i32_255
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v414 : BitVec 32 := Scalar.muli v8 c1_i32_256
  let v415 : BitVec 32 := Scalar.addi v413 v414
  v415.toNat
def k0_dev30 (d0 : Dev nD) : Nat :=
  let c0_i32_262 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_261 : BitVec 32 := 16#32
  let v422 : BitVec 32 := Scalar.muli v9 c16_i32_261
  let v423 : BitVec 32 := Scalar.addi c0_i32_262 v422
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_263 : BitVec 32 := 4#32
  let v424 : BitVec 32 := Scalar.muli v5 c4_i32_263
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v426 : BitVec 32 := Scalar.muli v8 c1_i32_264
  let v427 : BitVec 32 := Scalar.addi v425 v426
  v427.toNat
def k0_dev31 (d0 : Dev nD) : Nat :=
  let c0_i32_270 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_269 : BitVec 32 := 16#32
  let v434 : BitVec 32 := Scalar.muli v9 c16_i32_269
  let v435 : BitVec 32 := Scalar.addi c0_i32_270 v434
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_271 : BitVec 32 := 4#32
  let v436 : BitVec 32 := Scalar.muli v5 c4_i32_271
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_272 : BitVec 32 := 1#32
  let v438 : BitVec 32 := Scalar.muli v8 c1_i32_272
  let v439 : BitVec 32 := Scalar.addi v437 v438
  v439.toNat
def k0_dev32 (d0 : Dev nD) : Nat :=
  let c0_i32_278 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_277 : BitVec 32 := 16#32
  let v446 : BitVec 32 := Scalar.muli v9 c16_i32_277
  let v447 : BitVec 32 := Scalar.addi c0_i32_278 v446
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_279 : BitVec 32 := 4#32
  let v448 : BitVec 32 := Scalar.muli v5 c4_i32_279
  let v449 : BitVec 32 := Scalar.addi v447 v448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v450 : BitVec 32 := Scalar.muli v8 c1_i32_280
  let v451 : BitVec 32 := Scalar.addi v449 v450
  v451.toNat
def k0_dev33 (d0 : Dev nD) : Nat :=
  let c0_i32_286 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_285 : BitVec 32 := 16#32
  let v458 : BitVec 32 := Scalar.muli v9 c16_i32_285
  let v459 : BitVec 32 := Scalar.addi c0_i32_286 v458
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_287 : BitVec 32 := 4#32
  let v460 : BitVec 32 := Scalar.muli v5 c4_i32_287
  let v461 : BitVec 32 := Scalar.addi v459 v460
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v462 : BitVec 32 := Scalar.muli v8 c1_i32_288
  let v463 : BitVec 32 := Scalar.addi v461 v462
  v463.toNat
def k0_dev34 (d0 : Dev nD) : Nat :=
  let c0_i32_295 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_294 : BitVec 32 := 16#32
  let v470 : BitVec 32 := Scalar.muli v9 c16_i32_294
  let v471 : BitVec 32 := Scalar.addi c0_i32_295 v470
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_296 : BitVec 32 := 4#32
  let v472 : BitVec 32 := Scalar.muli v5 c4_i32_296
  let v473 : BitVec 32 := Scalar.addi v471 v472
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v474 : BitVec 32 := Scalar.muli v8 c1_i32_297
  let v475 : BitVec 32 := Scalar.addi v473 v474
  v475.toNat
def k0_dev35 (d0 : Dev nD) : Nat :=
  let c0_i32_301 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_300 : BitVec 32 := 16#32
  let v480 : BitVec 32 := Scalar.muli v9 c16_i32_300
  let v481 : BitVec 32 := Scalar.addi c0_i32_301 v480
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_302 : BitVec 32 := 4#32
  let v482 : BitVec 32 := Scalar.muli v5 c4_i32_302
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v484 : BitVec 32 := Scalar.muli v8 c1_i32_303
  let v485 : BitVec 32 := Scalar.addi v483 v484
  v485.toNat
def k0_dev36 (d0 : Dev nD) : Nat :=
  let c0_i32_311 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_310 : BitVec 32 := 16#32
  let v492 : BitVec 32 := Scalar.muli v9 c16_i32_310
  let v493 : BitVec 32 := Scalar.addi c0_i32_311 v492
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_312 : BitVec 32 := 4#32
  let v494 : BitVec 32 := Scalar.muli v5 c4_i32_312
  let v495 : BitVec 32 := Scalar.addi v493 v494
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v496 : BitVec 32 := Scalar.muli v8 c1_i32_313
  let v497 : BitVec 32 := Scalar.addi v495 v496
  v497.toNat
def k0_dev37 (d0 : Dev nD) : Nat :=
  let c0_i32_321 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_320 : BitVec 32 := 16#32
  let v504 : BitVec 32 := Scalar.muli v9 c16_i32_320
  let v505 : BitVec 32 := Scalar.addi c0_i32_321 v504
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_322 : BitVec 32 := 4#32
  let v506 : BitVec 32 := Scalar.muli v5 c4_i32_322
  let v507 : BitVec 32 := Scalar.addi v505 v506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_323 : BitVec 32 := 1#32
  let v508 : BitVec 32 := Scalar.muli v8 c1_i32_323
  let v509 : BitVec 32 := Scalar.addi v507 v508
  v509.toNat
def k0_dev38 (d0 : Dev nD) : Nat :=
  let c0_i32_331 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_330 : BitVec 32 := 16#32
  let v516 : BitVec 32 := Scalar.muli v9 c16_i32_330
  let v517 : BitVec 32 := Scalar.addi c0_i32_331 v516
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v518 : BitVec 32 := Scalar.muli v5 c4_i32_332
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v520 : BitVec 32 := Scalar.muli v8 c1_i32_333
  let v521 : BitVec 32 := Scalar.addi v519 v520
  v521.toNat
def k0_dev39 (d0 : Dev nD) : Nat :=
  let c0_i32_341 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_340 : BitVec 32 := 16#32
  let v528 : BitVec 32 := Scalar.muli v9 c16_i32_340
  let v529 : BitVec 32 := Scalar.addi c0_i32_341 v528
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_342 : BitVec 32 := 4#32
  let v530 : BitVec 32 := Scalar.muli v5 c4_i32_342
  let v531 : BitVec 32 := Scalar.addi v529 v530
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v532 : BitVec 32 := Scalar.muli v8 c1_i32_343
  let v533 : BitVec 32 := Scalar.addi v531 v532
  v533.toNat
def k0_dev40 (d0 : Dev nD) : Nat :=
  let c0_i32_351 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_350 : BitVec 32 := 16#32
  let v540 : BitVec 32 := Scalar.muli v9 c16_i32_350
  let v541 : BitVec 32 := Scalar.addi c0_i32_351 v540
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_352 : BitVec 32 := 4#32
  let v542 : BitVec 32 := Scalar.muli v5 c4_i32_352
  let v543 : BitVec 32 := Scalar.addi v541 v542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_353 : BitVec 32 := 1#32
  let v544 : BitVec 32 := Scalar.muli v8 c1_i32_353
  let v545 : BitVec 32 := Scalar.addi v543 v544
  v545.toNat
def k0_dev41 (d0 : Dev nD) : Nat :=
  let c0_i32_361 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_360 : BitVec 32 := 16#32
  let v552 : BitVec 32 := Scalar.muli v9 c16_i32_360
  let v553 : BitVec 32 := Scalar.addi c0_i32_361 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v554 : BitVec 32 := Scalar.muli v5 c4_i32_362
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v556 : BitVec 32 := Scalar.muli v8 c1_i32_363
  let v557 : BitVec 32 := Scalar.addi v555 v556
  v557.toNat
def k0_dev42 (d0 : Dev nD) : Nat :=
  let c0_i32_371 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_370 : BitVec 32 := 16#32
  let v564 : BitVec 32 := Scalar.muli v9 c16_i32_370
  let v565 : BitVec 32 := Scalar.addi c0_i32_371 v564
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_372 : BitVec 32 := 4#32
  let v566 : BitVec 32 := Scalar.muli v5 c4_i32_372
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_373 : BitVec 32 := 1#32
  let v568 : BitVec 32 := Scalar.muli v8 c1_i32_373
  let v569 : BitVec 32 := Scalar.addi v567 v568
  v569.toNat
def k0_dev43 (d0 : Dev nD) : Nat :=
  let c0_i32_381 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_380 : BitVec 32 := 16#32
  let v576 : BitVec 32 := Scalar.muli v9 c16_i32_380
  let v577 : BitVec 32 := Scalar.addi c0_i32_381 v576
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_382 : BitVec 32 := 4#32
  let v578 : BitVec 32 := Scalar.muli v5 c4_i32_382
  let v579 : BitVec 32 := Scalar.addi v577 v578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v580 : BitVec 32 := Scalar.muli v8 c1_i32_383
  let v581 : BitVec 32 := Scalar.addi v579 v580
  v581.toNat
def k0_dev44 (d0 : Dev nD) : Nat :=
  let c0_i32_391 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_390 : BitVec 32 := 16#32
  let v588 : BitVec 32 := Scalar.muli v9 c16_i32_390
  let v589 : BitVec 32 := Scalar.addi c0_i32_391 v588
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_392 : BitVec 32 := 4#32
  let v590 : BitVec 32 := Scalar.muli v5 c4_i32_392
  let v591 : BitVec 32 := Scalar.addi v589 v590
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_393 : BitVec 32 := 1#32
  let v592 : BitVec 32 := Scalar.muli v8 c1_i32_393
  let v593 : BitVec 32 := Scalar.addi v591 v592
  v593.toNat
def k0_dev45 (d0 : Dev nD) : Nat :=
  let c0_i32_401 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_400 : BitVec 32 := 16#32
  let v600 : BitVec 32 := Scalar.muli v9 c16_i32_400
  let v601 : BitVec 32 := Scalar.addi c0_i32_401 v600
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_402 : BitVec 32 := 4#32
  let v602 : BitVec 32 := Scalar.muli v5 c4_i32_402
  let v603 : BitVec 32 := Scalar.addi v601 v602
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_403 : BitVec 32 := 1#32
  let v604 : BitVec 32 := Scalar.muli v8 c1_i32_403
  let v605 : BitVec 32 := Scalar.addi v603 v604
  v605.toNat
def k0_dev46 (d0 : Dev nD) : Nat :=
  let c0_i32_411 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_410 : BitVec 32 := 16#32
  let v612 : BitVec 32 := Scalar.muli v9 c16_i32_410
  let v613 : BitVec 32 := Scalar.addi c0_i32_411 v612
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_412 : BitVec 32 := 4#32
  let v614 : BitVec 32 := Scalar.muli v5 c4_i32_412
  let v615 : BitVec 32 := Scalar.addi v613 v614
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_413 : BitVec 32 := 1#32
  let v616 : BitVec 32 := Scalar.muli v8 c1_i32_413
  let v617 : BitVec 32 := Scalar.addi v615 v616
  v617.toNat
def k0_dev47 (d0 : Dev nD) : Nat :=
  let c0_i32_421 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_420 : BitVec 32 := 16#32
  let v624 : BitVec 32 := Scalar.muli v9 c16_i32_420
  let v625 : BitVec 32 := Scalar.addi c0_i32_421 v624
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_422 : BitVec 32 := 4#32
  let v626 : BitVec 32 := Scalar.muli v5 c4_i32_422
  let v627 : BitVec 32 := Scalar.addi v625 v626
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_423 : BitVec 32 := 1#32
  let v628 : BitVec 32 := Scalar.muli v8 c1_i32_423
  let v629 : BitVec 32 := Scalar.addi v627 v628
  v629.toNat
def k0_dev48 (d0 : Dev nD) : Nat :=
  let c0_i32_431 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_430 : BitVec 32 := 16#32
  let v636 : BitVec 32 := Scalar.muli v9 c16_i32_430
  let v637 : BitVec 32 := Scalar.addi c0_i32_431 v636
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_432 : BitVec 32 := 4#32
  let v638 : BitVec 32 := Scalar.muli v5 c4_i32_432
  let v639 : BitVec 32 := Scalar.addi v637 v638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_433 : BitVec 32 := 1#32
  let v640 : BitVec 32 := Scalar.muli v8 c1_i32_433
  let v641 : BitVec 32 := Scalar.addi v639 v640
  v641.toNat
def k0_dev49 (d0 : Dev nD) : Nat :=
  let c0_i32_441 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_440 : BitVec 32 := 16#32
  let v648 : BitVec 32 := Scalar.muli v9 c16_i32_440
  let v649 : BitVec 32 := Scalar.addi c0_i32_441 v648
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_442 : BitVec 32 := 4#32
  let v650 : BitVec 32 := Scalar.muli v5 c4_i32_442
  let v651 : BitVec 32 := Scalar.addi v649 v650
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_443 : BitVec 32 := 1#32
  let v652 : BitVec 32 := Scalar.muli v8 c1_i32_443
  let v653 : BitVec 32 := Scalar.addi v651 v652
  v653.toNat
def k0_dev50 (d0 : Dev nD) : Nat :=
  let c0_i32_451 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_450 : BitVec 32 := 16#32
  let v660 : BitVec 32 := Scalar.muli v9 c16_i32_450
  let v661 : BitVec 32 := Scalar.addi c0_i32_451 v660
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_452 : BitVec 32 := 4#32
  let v662 : BitVec 32 := Scalar.muli v5 c4_i32_452
  let v663 : BitVec 32 := Scalar.addi v661 v662
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_453 : BitVec 32 := 1#32
  let v664 : BitVec 32 := Scalar.muli v8 c1_i32_453
  let v665 : BitVec 32 := Scalar.addi v663 v664
  v665.toNat
def k0_dev51 (d0 : Dev nD) : Nat :=
  let c0_i32_461 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_460 : BitVec 32 := 16#32
  let v672 : BitVec 32 := Scalar.muli v9 c16_i32_460
  let v673 : BitVec 32 := Scalar.addi c0_i32_461 v672
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_462 : BitVec 32 := 4#32
  let v674 : BitVec 32 := Scalar.muli v5 c4_i32_462
  let v675 : BitVec 32 := Scalar.addi v673 v674
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_463 : BitVec 32 := 1#32
  let v676 : BitVec 32 := Scalar.muli v8 c1_i32_463
  let v677 : BitVec 32 := Scalar.addi v675 v676
  v677.toNat
def k0_dev52 (d0 : Dev nD) : Nat :=
  let c0_i32_471 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_470 : BitVec 32 := 16#32
  let v684 : BitVec 32 := Scalar.muli v9 c16_i32_470
  let v685 : BitVec 32 := Scalar.addi c0_i32_471 v684
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_472 : BitVec 32 := 4#32
  let v686 : BitVec 32 := Scalar.muli v5 c4_i32_472
  let v687 : BitVec 32 := Scalar.addi v685 v686
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_473 : BitVec 32 := 1#32
  let v688 : BitVec 32 := Scalar.muli v8 c1_i32_473
  let v689 : BitVec 32 := Scalar.addi v687 v688
  v689.toNat
def k0_dev53 (d0 : Dev nD) : Nat :=
  let c0_i32_481 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_480 : BitVec 32 := 16#32
  let v696 : BitVec 32 := Scalar.muli v9 c16_i32_480
  let v697 : BitVec 32 := Scalar.addi c0_i32_481 v696
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_482 : BitVec 32 := 4#32
  let v698 : BitVec 32 := Scalar.muli v5 c4_i32_482
  let v699 : BitVec 32 := Scalar.addi v697 v698
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_483 : BitVec 32 := 1#32
  let v700 : BitVec 32 := Scalar.muli v8 c1_i32_483
  let v701 : BitVec 32 := Scalar.addi v699 v700
  v701.toNat
def k0_dev54 (d0 : Dev nD) : Nat :=
  let c0_i32_491 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_490 : BitVec 32 := 16#32
  let v708 : BitVec 32 := Scalar.muli v9 c16_i32_490
  let v709 : BitVec 32 := Scalar.addi c0_i32_491 v708
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v710 : BitVec 32 := Scalar.muli v5 c4_i32_492
  let v711 : BitVec 32 := Scalar.addi v709 v710
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v712 : BitVec 32 := Scalar.muli v8 c1_i32_493
  let v713 : BitVec 32 := Scalar.addi v711 v712
  v713.toNat
def k0_dev55 (d0 : Dev nD) : Nat :=
  let c0_i32_501 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_500 : BitVec 32 := 16#32
  let v720 : BitVec 32 := Scalar.muli v9 c16_i32_500
  let v721 : BitVec 32 := Scalar.addi c0_i32_501 v720
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_502 : BitVec 32 := 4#32
  let v722 : BitVec 32 := Scalar.muli v5 c4_i32_502
  let v723 : BitVec 32 := Scalar.addi v721 v722
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_503 : BitVec 32 := 1#32
  let v724 : BitVec 32 := Scalar.muli v8 c1_i32_503
  let v725 : BitVec 32 := Scalar.addi v723 v724
  v725.toNat
def k0_dev56 (d0 : Dev nD) : Nat :=
  let c0_i32_511 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_510 : BitVec 32 := 16#32
  let v732 : BitVec 32 := Scalar.muli v9 c16_i32_510
  let v733 : BitVec 32 := Scalar.addi c0_i32_511 v732
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_512 : BitVec 32 := 4#32
  let v734 : BitVec 32 := Scalar.muli v5 c4_i32_512
  let v735 : BitVec 32 := Scalar.addi v733 v734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_513 : BitVec 32 := 1#32
  let v736 : BitVec 32 := Scalar.muli v8 c1_i32_513
  let v737 : BitVec 32 := Scalar.addi v735 v736
  v737.toNat
def k0_dev57 (d0 : Dev nD) : Nat :=
  let c0_i32_521 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_520 : BitVec 32 := 16#32
  let v744 : BitVec 32 := Scalar.muli v9 c16_i32_520
  let v745 : BitVec 32 := Scalar.addi c0_i32_521 v744
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_522 : BitVec 32 := 4#32
  let v746 : BitVec 32 := Scalar.muli v5 c4_i32_522
  let v747 : BitVec 32 := Scalar.addi v745 v746
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v748 : BitVec 32 := Scalar.muli v8 c1_i32_523
  let v749 : BitVec 32 := Scalar.addi v747 v748
  v749.toNat
def k0_dev58 (d0 : Dev nD) : Nat :=
  let c0_i32_531 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_530 : BitVec 32 := 16#32
  let v756 : BitVec 32 := Scalar.muli v9 c16_i32_530
  let v757 : BitVec 32 := Scalar.addi c0_i32_531 v756
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_532 : BitVec 32 := 4#32
  let v758 : BitVec 32 := Scalar.muli v5 c4_i32_532
  let v759 : BitVec 32 := Scalar.addi v757 v758
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_533 : BitVec 32 := 1#32
  let v760 : BitVec 32 := Scalar.muli v8 c1_i32_533
  let v761 : BitVec 32 := Scalar.addi v759 v760
  v761.toNat
def k0_dev59 (d0 : Dev nD) : Nat :=
  let c0_i32_541 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_540 : BitVec 32 := 16#32
  let v768 : BitVec 32 := Scalar.muli v9 c16_i32_540
  let v769 : BitVec 32 := Scalar.addi c0_i32_541 v768
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_542 : BitVec 32 := 4#32
  let v770 : BitVec 32 := Scalar.muli v5 c4_i32_542
  let v771 : BitVec 32 := Scalar.addi v769 v770
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_543 : BitVec 32 := 1#32
  let v772 : BitVec 32 := Scalar.muli v8 c1_i32_543
  let v773 : BitVec 32 := Scalar.addi v771 v772
  v773.toNat
def k0_dev60 (d0 : Dev nD) : Nat :=
  let c0_i32_551 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_550 : BitVec 32 := 16#32
  let v780 : BitVec 32 := Scalar.muli v9 c16_i32_550
  let v781 : BitVec 32 := Scalar.addi c0_i32_551 v780
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_552 : BitVec 32 := 4#32
  let v782 : BitVec 32 := Scalar.muli v5 c4_i32_552
  let v783 : BitVec 32 := Scalar.addi v781 v782
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_553 : BitVec 32 := 1#32
  let v784 : BitVec 32 := Scalar.muli v8 c1_i32_553
  let v785 : BitVec 32 := Scalar.addi v783 v784
  v785.toNat
def k0_dev61 (d0 : Dev nD) : Nat :=
  let c0_i32_561 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_560 : BitVec 32 := 16#32
  let v792 : BitVec 32 := Scalar.muli v9 c16_i32_560
  let v793 : BitVec 32 := Scalar.addi c0_i32_561 v792
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_562 : BitVec 32 := 4#32
  let v794 : BitVec 32 := Scalar.muli v5 c4_i32_562
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_563 : BitVec 32 := 1#32
  let v796 : BitVec 32 := Scalar.muli v8 c1_i32_563
  let v797 : BitVec 32 := Scalar.addi v795 v796
  v797.toNat
def k0_dev62 (d0 : Dev nD) : Nat :=
  let c0_i32_571 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_570 : BitVec 32 := 16#32
  let v804 : BitVec 32 := Scalar.muli v9 c16_i32_570
  let v805 : BitVec 32 := Scalar.addi c0_i32_571 v804
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_572 : BitVec 32 := 4#32
  let v806 : BitVec 32 := Scalar.muli v5 c4_i32_572
  let v807 : BitVec 32 := Scalar.addi v805 v806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_573 : BitVec 32 := 1#32
  let v808 : BitVec 32 := Scalar.muli v8 c1_i32_573
  let v809 : BitVec 32 := Scalar.addi v807 v808
  v809.toNat
def k0_dev63 (d0 : Dev nD) : Nat :=
  let c0_i32_581 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_580 : BitVec 32 := 16#32
  let v816 : BitVec 32 := Scalar.muli v9 c16_i32_580
  let v817 : BitVec 32 := Scalar.addi c0_i32_581 v816
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_582 : BitVec 32 := 4#32
  let v818 : BitVec 32 := Scalar.muli v5 c4_i32_582
  let v819 : BitVec 32 := Scalar.addi v817 v818
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_583 : BitVec 32 := 1#32
  let v820 : BitVec 32 := Scalar.muli v8 c1_i32_583
  let v821 : BitVec 32 := Scalar.addi v819 v820
  v821.toNat
def k0_dev64 (d0 : Dev nD) : Nat :=
  let c0_i32_591 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_590 : BitVec 32 := 16#32
  let v828 : BitVec 32 := Scalar.muli v9 c16_i32_590
  let v829 : BitVec 32 := Scalar.addi c0_i32_591 v828
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_592 : BitVec 32 := 4#32
  let v830 : BitVec 32 := Scalar.muli v5 c4_i32_592
  let v831 : BitVec 32 := Scalar.addi v829 v830
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_593 : BitVec 32 := 1#32
  let v832 : BitVec 32 := Scalar.muli v8 c1_i32_593
  let v833 : BitVec 32 := Scalar.addi v831 v832
  v833.toNat
def k0_dev65 (d0 : Dev nD) : Nat :=
  let c0_i32_601 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_600 : BitVec 32 := 16#32
  let v840 : BitVec 32 := Scalar.muli v9 c16_i32_600
  let v841 : BitVec 32 := Scalar.addi c0_i32_601 v840
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_602 : BitVec 32 := 4#32
  let v842 : BitVec 32 := Scalar.muli v5 c4_i32_602
  let v843 : BitVec 32 := Scalar.addi v841 v842
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_603 : BitVec 32 := 1#32
  let v844 : BitVec 32 := Scalar.muli v8 c1_i32_603
  let v845 : BitVec 32 := Scalar.addi v843 v844
  v845.toNat
def k0_dev66 (d0 : Dev nD) : Nat :=
  let c0_i32_611 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_610 : BitVec 32 := 16#32
  let v852 : BitVec 32 := Scalar.muli v9 c16_i32_610
  let v853 : BitVec 32 := Scalar.addi c0_i32_611 v852
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_612 : BitVec 32 := 4#32
  let v854 : BitVec 32 := Scalar.muli v5 c4_i32_612
  let v855 : BitVec 32 := Scalar.addi v853 v854
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_613 : BitVec 32 := 1#32
  let v856 : BitVec 32 := Scalar.muli v8 c1_i32_613
  let v857 : BitVec 32 := Scalar.addi v855 v856
  v857.toNat
def k0_dev67 (d0 : Dev nD) : Nat :=
  let c0_i32_621 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_620 : BitVec 32 := 16#32
  let v864 : BitVec 32 := Scalar.muli v9 c16_i32_620
  let v865 : BitVec 32 := Scalar.addi c0_i32_621 v864
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_622 : BitVec 32 := 4#32
  let v866 : BitVec 32 := Scalar.muli v5 c4_i32_622
  let v867 : BitVec 32 := Scalar.addi v865 v866
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_623 : BitVec 32 := 1#32
  let v868 : BitVec 32 := Scalar.muli v8 c1_i32_623
  let v869 : BitVec 32 := Scalar.addi v867 v868
  v869.toNat
def k0_dev68 (d0 : Dev nD) : Nat :=
  let c0_i32_1762_r0 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1761_r0 : BitVec 32 := 16#32
  let v1839_r0 : BitVec 32 := Scalar.muli v9 c16_i32_1761_r0
  let v1840_r0 : BitVec 32 := Scalar.addi c0_i32_1762_r0 v1839_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1763_r0 : BitVec 32 := 4#32
  let v1841_r0 : BitVec 32 := Scalar.muli v5 c4_i32_1763_r0
  let v1842_r0 : BitVec 32 := Scalar.addi v1840_r0 v1841_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1764_r0 : BitVec 32 := 1#32
  let v1843_r0 : BitVec 32 := Scalar.muli v8 c1_i32_1764_r0
  let v1844_r0 : BitVec 32 := Scalar.addi v1842_r0 v1843_r0
  v1844_r0.toNat
abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512 : Shape := ⟨1, ![512]⟩
abbrev S8192x512 : Shape := ⟨2, ![8192, 512]⟩
abbrev S_ : Shape := ⟨0, ![]⟩
abbrev S512x1 : Shape := ⟨2, ![512, 1]⟩
abbrev S512x512 : Shape := ⟨2, ![512, 512]⟩

abbrev nBuf : Space → Nat
  | .hbm => 12
  | .vmem => 0
  | .smem => 0
  | _ => 0

abbrev bufTy : (tb : Table) → Fin (tcTables nBuf tb) → BufTy
  | .hbm, ⟨0, _⟩ => ⟨S512, .i32⟩
  | .hbm, ⟨1, _⟩ => ⟨S8192x512, .bf16⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .bf16⟩
  | .hbm, ⟨11, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Rolled.lean ====
/- The kernel body, rolled: the 128 chunk transfers of the printed text are four passes over the 32 chunks of a
   buffer, and every device the text names is the one device across the x axis of the mesh. The printed body is
   definitionally this program (`body_rolled`). -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.Rows

open Idealize.ShloMosaic Idealize.ShloMosaic.TcCoe
open Idealize.SL Idealize.SL.Sem
open Cert.KernelIdeal Cert.KernelIdeal.Gen

variable {F : FTy → Type} [FloatOps F]

/-! ### The buffers -/

/-- The mask of owned rows, the rows this device looked up, and the result, as the body's windows name them. -/
abbrev maskM : Memref sig .tc .vmem S512x1 .i32 := st0_0 t0_0
abbrev partM : Memref sig .tc .vmem S512x512 .bf16 := st0_1 t0_0
abbrev outM : Memref sig .tc .vmem S512x512 .f32 := st0_2 t0_0
/-- The buffer the rows are sent from. -/
abbrev sM : Memref sig .tc .vmem S512x512 .bf16 := Memref.whole cc0_scratch0
/-- The buffer the rows of round `b` arrive in: `false` the first round, `true` the second. -/
def rM (b : Bool) : Memref sig .tc .vmem S512x512 .bf16 := bif b then Memref.whole cc0_scratch2 else Memref.whole cc0_scratch1
/-- The checksums of the rows sent. -/
abbrev cM : Memref sig .tc .vmem S32x512 .f32 := Memref.whole cc0_scratch3
/-- The buffer the checksums of round `b` arrive in. -/
def eM (b : Bool) : Memref sig .tc .vmem S32x512 .f32 := bif b then Memref.whole cc0_scratch5 else Memref.whole cc0_scratch4

theorem rM_whole (b : Bool) : (rM b).IsWhole := by cases b <;> exact Memref.isWhole_whole _
theorem eM_whole (b : Bool) : (eM b).IsWhole := by cases b <;> exact Memref.isWhole_whole _
theorem sM_whole : sM.IsWhole := Memref.isWhole_whole _
theorem cM_whole : cM.IsWhole := Memref.isWhole_whole _

/-! ### Chunks and slots -/

/-- Chunk `k` of the rows, rows `16 k` to `16 k + 15`, lies inside the buffer. -/
theorem inbChunk (k : Fin 32) (a : Fin S512x512.rank) :
    (![16 * k.val, 0] : Fin S512x512.rank → Nat) a + S16x512.size a ≤ S512x512.size a := by
  revert k a; decide

/-- Slot `k` of a semaphore array lies inside it. -/
theorem inbSlot (k : Fin 33) (a : Fin S33.rank) : (![k.val] : Fin S33.rank → Nat) a + S1.size a ≤ S33.size a := by
  revert k a; decide

abbrev chunkR (k : Fin 32) : Rect S512x512 := Rect.unit (s := S512x512) ![16 * k.val, 0] S16x512.size (inbChunk k)

/-- A chunk takes whole words of its buffer. -/
theorem wordsChunk (k : Fin 32) : (chunkR k).WholeWords (EltTy.packing .bf16) := by
  revert k; decide

/-- Chunk `k` of a buffer of rows. -/
abbrev chunk (M : Memref sig .tc .vmem S512x512 .bf16) (k : Fin 32) : Memref sig .tc .vmem S16x512 .bf16 :=
  M.slice (chunkR k) (fun _ => rfl)

/-- Slot `k` of a semaphore array. -/
abbrev slot (a : DmaSems sig S33) (k : Fin 33) : DmaSem sig :=
  ((a.slice (Rect.unit (s := S33) ![k.val] S1.size (inbSlot k))).squeeze S_ squeezes_S1_S_).sem

/-- The semaphores that report a round's reads done, at the sender. -/
def sentA (b : Bool) : DmaSems sig S33 := bif b then cc0_scratch8 else cc0_scratch6
/-- The semaphores that report a round's arrivals, at the receiver. -/
def gotA (b : Bool) : DmaSems sig S33 := bif b then cc0_scratch9 else cc0_scratch7

/-- The slot of chunk `k`. -/
abbrev cs (k : Fin 32) : Fin 33 := k.castSucc

/-- The device across the x axis, as the text computes it. -/
def far (d : Dev nD) : Dev nD := ⟨k0_dev1 d, k0_dev1_lt d⟩

/-! ### The body -/

/-- Send chunk `k` of the rows in round `b`. -/
def putChunk (b : Bool) (d : Dev nD) (k : Fin 32) : Prog (TpuEff nD τ sig (Elt F) Λ₀ .tc) PUnit :=
  Prog.lift (.enqueueDma (chunk sM k) (.remote (Dev.tc (far d)) (chunk (rM b) k) (.dma (slot (sentA b) (cs k))))
    (.dma (slot (gotA b) (cs k))) (sM_whole.wordExact_slice rfl _ (wordsChunk k))
    ((rM_whole b).wordExact_slice rfl _ (wordsChunk k)) ⟨⟨rfl, Or.inl rfl⟩, trivial⟩)

/-- Send the checksums in round `b`. -/
def putSums (b : Bool) (d : Dev nD) : Prog (TpuEff nD τ sig (Elt F) Λ₀ .tc) PUnit :=
  Prog.lift (.enqueueDma cM (.remote (Dev.tc (far d)) (eM b) (.dma (slot (sentA b) 32)))
    (.dma (slot (gotA b) 32)) cM_whole.wordExact (eM_whole b).wordExact ⟨⟨rfl, Or.inl rfl⟩, trivial⟩)

/-- Wait for round `b`'s chunk `k` to be read here, then to arrive here. -/
def takeChunk (b : Bool) (k : Fin 32) : Prog (TpuEff nD τ sig (Elt F) Λ₀ .tc) PUnit := do
  Prog.lift (.waitDma2 (slot (sentA b) (cs k)) (chunk (rM b) k) (chunk sM k)
    ((rM_whole b).wordExact_slice rfl _ (wordsChunk k)) (sM_whole.wordExact_slice rfl _ (wordsChunk k)))
  Prog.lift (.waitDma2 (slot (gotA b) (cs k)) (chunk sM k) (chunk (rM b) k)
    (sM_whole.wordExact_slice rfl _ (wordsChunk k)) ((rM_whole b).wordExact_slice rfl _ (wordsChunk k)))

/-- The same for the checksums. -/
def takeSums (b : Bool) : Prog (TpuEff nD τ sig (Elt F) Λ₀ .tc) PUnit := do
  Prog.lift (.waitDma2 (slot (sentA b) 32) (eM b) cM (eM_whole b).wordExact cM_whole.wordExact)
  Prog.lift (.waitDma2 (slot (gotA b) 32) cM (eM b) cM_whole.wordExact (eM_whole b).wordExact)

/-- What a round moves: a chunk of the rows, or (`none`) the checksums. -/
abbrev Item : Type := Option (Fin 32)

/-- The slot an item is reported on. -/
def pos : Item → Fin 33
  | some k => cs k
  | none => 32

/-- Send item `i` in round `b`. -/
def put (b : Bool) (d : Dev nD) : Item → Prog (TpuEff nD τ sig (Elt F) Λ₀ .tc) PUnit
  | some k => putChunk b d k
  | none => putSums b d

/-- Wait for round `b`'s item `i`. -/
def take (b : Bool) : Item → Prog (TpuEff nD τ sig (Elt F) Λ₀ .tc) PUnit
  | some k => takeChunk b k
  | none => takeSums b

/-- A step for each item of a list, in order. -/
def each (f : Item → Prog (TpuEff nD τ sig (Elt F) Λ₀ .tc) PUnit) : List Item → Prog (TpuEff nD τ sig (Elt F) Λ₀ .tc) PUnit
  | [] => pure ⟨⟩
  | k :: ks => do f k; each f ks

/-- What a round moves, in order: the 32 chunks, then the checksums. -/
def items : List Item := (List.finRange 32).map some ++ [none]

/-- All of round `b`'s transfers are started. -/
def sendAll (b : Bool) (d : Dev nD) : Prog (TpuEff nD τ sig (Elt F) Λ₀ .tc) PUnit := each (put b d) items

/-- All of round `b`'s transfers are waited for. -/
def takeAll (b : Bool) : Prog (TpuEff nD τ sig (Elt F) Λ₀ .tc) PUnit := each (take b) items

abbrev allR : Rect S512x512 := Rect.unit (s := S512x512) ![0, 0] S512x512.size inb_S512x512_S512x512_0_0
abbrev allC : Rect S32x512 := Rect.unit (s := S32x512) ![0, 0] S32x512.size inb_S32x512_S32x512_0_0
abbrev allM : Rect S512x1 := Rect.unit (s := S512x1) ![0, 0] S512x1.size inb_S512x1_S512x1_0_0

def loadR (M : Memref sig .tc .vmem S512x512 .bf16) : Prog (TpuEff nD τ sig (Elt F) Λ₀ .tc) (Vec F S512x512 .bf16) :=
  Prog.lift (.load M allR.toLoadRect (View.loadsAt_vmem h_S512x512))
def loadC (M : Memref sig .tc .vmem S32x512 .f32) : Prog (TpuEff nD τ sig (Elt F) Λ₀ .tc) (Vec F S32x512 .f32) :=
  Prog.lift (.load M allC.toLoadRect (View.loadsAt_vmem h_S32x512))
def loadO : Prog (TpuEff nD τ sig (Elt F) Λ₀ .tc) (Vec F S512x512 .f32) :=
  Prog.lift (.load outM allR.toLoadRect (View.loadsAt_vmem h_S512x512))
def loadM : Prog (TpuEff nD τ sig (Elt F) Λ₀ .tc) (Vec F S512x1 .i32) :=
  Prog.lift (.load maskM allM.toLoadRect (View.loadsAt_vmem h_S512x1))
def storeS (v : Vec F S512x512 .bf16) : Prog (TpuEff nD τ sig (Elt F) Λ₀ .tc) PUnit :=
  Prog.lift (.store sM allR v Finset.univ (View.stores_vmem h_S512x512
    (sM_whole.storeExact_slice rfl _ packedbf16_S512x512_S512x512_0_0) (fun _ => rfl)) (.inl rfl))
def storeC (v : Vec F S32x512 .f32) : Prog (TpuEff nD τ sig (Elt F) Λ₀ .tc) PUnit :=
  Prog.lift (.store cM allC v Finset.univ (View.stores_vmem_bits_univ h_S32x512 rfl) (.inl rfl))
def storeO (v : Vec F S512x512 .f32) : Prog (TpuEff nD τ sig (Elt F) Λ₀ .tc) PUnit :=
  Prog.lift (.store outM allR v Finset.univ (View.stores_vmem_bits_univ h_S512x512 rfl) (.inl rfl))

/-- The row numbers the checksums' coefficients are made of. -/
def rowIds : IVec S32x512 32 := iota .tc S32x512 32 [0] iota_S32x512_d0_w32

/-- The kernel body. -/
def rolled : Prog (TpuEff nD τ sig (Elt F) Λ₀ .tc) PUnit := do
  let d : Dev nD ← Prog.lift .deviceId
  let v10 ← loadR partM
  let _ ← loadR sM
  storeS (k0_pay2 v10)
  let v74 ← loadR sM
  let _ ← loadC cM
  storeC (k0_pay8 rowIds k0_pay3 k0_pay4 k0_pay5 v74)
  semSignalWord (far d) barrier0 1#32
  semWaitWord barrier0 1#32
  sendAll false d
  sendAll true d
  takeAll false
  let v1332 ← loadR (rM false)
  let v1334 ← loadC (eM false)
  let v1343 ← loadR partM
  let v1346 ← loadC cM
  let v1355 ← loadR sM
  let v1357 ← loadR partM
  let v1363 ← loadM
  let v1367 ← loadR (rM false)
  takeAll true
  let v1832 ← loadR (rM true)
  let _ ← loadO
  storeO (k0_pay1 (k0_pay9 (k0_pay6 (F := F) rowIds k0_pay3 k0_pay4 k0_pay5) k0_pay7 v1332 v1334) (k0_pay13 v1363)
    (k0_pay14 (k0_pay10 v1355) (k0_pay11 v1357) (k0_pay12 (k0_pay6 (F := F) rowIds k0_pay3 k0_pay4 k0_pay5) k0_pay7 v1343 v1346) v1363 v1367)
    v1832)
  semSignalWord (far d) cc0_scoped0.sem 1#32
  semWaitWord cc0_scoped0.sem 1#32
  pure ⟨⟩

set_option maxRecDepth 65536 in
/-- The printed body is the rolled one. -/
theorem body_rolled : (bodyAt0 (F := F) t0_0) = rolled := by
  chain_rfl

end Cert.KernelIdeal.Rows

end
-- ==== Proof.Proto.lean ====
/- The exchange's protocol: the semaphores by name, what each one guards, who pays it and with what, what a device owes when
   the kernel starts, and the order in which waits may depend on one another. -/
module

public import proofs.«01_k».proof.Proof.Rolled
public import Idealize.ShloMosaic.Lib.Pipeline.Kit
public import Idealize.ShloMosaic.Lib.Pipeline.BigSepL
public import Idealize.ShloMosaic.Lib.Rounds

@[expose] public section

noncomputable section

namespace Cert.KernelIdeal.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Cert.KernelIdeal Cert.KernelIdeal.Gen

variable {F : FTy → Type} [FloatOps F]

/-! ### The device across -/

/-- Going across twice comes back. -/
theorem far_far (c : Dev nD) : far (far c) = c := by
  revert c; decide +kernel

/-! ### The semaphores by name -/

/-- A DMA semaphore of the exchange: at the receiver (`true`) or the sender (`false`), the round, the item. -/
abbrev Slot : Type := Bool × Bool × Item

/-- The DMA semaphore of a slot. -/
def dmaOf (x : Slot) : DmaSem sig := slot (bif x.1 then gotA x.2.1 else sentA x.2.1) (pos x.2.2)

/-- The semaphores the kernel allocates: the one it leaves on (`none`), and the slots. -/
def osem : Option Slot → SemLoc sig
  | none => .reg cc0_scoped0.sem
  | some x => .dma (dmaOf x)

/-- The semaphores of the exchange: the barrier's (`none`), and the kernel's own. -/
def semOf : Option (Option Slot) → SemLoc sig
  | none => .reg barrier0
  | some x => osem x

/-- The item reported on slot `n`. -/
def itemAt (n : ℕ) : Item := if h : n < 32 then some ⟨n, h⟩ else none

/-- The name of a semaphore, when the exchange uses it. -/
def nameOf : SemLoc sig → Option (Option (Option Slot))
  | .reg s => if s = barrier0 then some none else if s = cc0_scoped0.sem then some (some none) else none
  | .dma s => if s.val < 3 then none
      else some (some (some (decide (33 ≤ (s.val - 3) % 66), decide (66 ≤ s.val - 3), itemAt ((s.val - 3) % 33))))

/-- A name is read back from its semaphore. -/
theorem nameOf_semOf (x : Option (Option Slot)) : nameOf (semOf x) = some x := by
  rcases x with _ | _ | ⟨a, b, i⟩
  · rfl
  · decide
  · cases i with
    | none => cases a <;> cases b <;> decide +kernel
    | some k => cases a <;> cases b <;> (fin_cases k <;> rfl)

theorem semOf_inj : Function.Injective semOf := fun x y h => by
  have := (nameOf_semOf x).symm.trans ((congrArg nameOf h).trans (nameOf_semOf y))
  exact Option.some.inj this

theorem osem_inj : Function.Injective osem := fun x y h => Option.some.inj (semOf_inj (a₁ := some x) (a₂ := some y) h)

abbrev sentS (b : Bool) (i : Item) : SemLoc sig := semOf (some (some (false, b, i)))
abbrev gotS (b : Bool) (i : Item) : SemLoc sig := semOf (some (some (true, b, i)))

/-- Device `c`'s semaphore of a name. -/
abbrev cell (c : Dev nD) (x : Option (Option Slot)) : GSem nD τ sig := ((c : Thread nD τ), semOf x)
abbrev barCell (c : Dev nD) : GSem nD τ sig := cell c none
abbrev endCell (c : Dev nD) : GSem nD τ sig := cell c (some none)
abbrev sentCell (c : Dev nD) (b : Bool) (i : Item) : GSem nD τ sig := cell c (some (some (false, b, i)))
abbrev gotCell (c : Dev nD) (b : Bool) (i : Item) : GSem nD τ sig := cell c (some (some (true, b, i)))

/-! ### The resource algebra -/

/-- Tokens over the program's semaphores. -/
abbrev UR : Type := URounds (GSem nD τ sig) Unit
/-- The pipeline's tokens beside the exchange's. -/
abbrev UU : Type := UR × UR

local notation "𝕄" => MT nD τ sig Unit (Elt F) ℕ UU ℕ

abbrev EP : Emb (UR) (MT nD τ sig Unit (Elt F) ℕ UU ℕ) := embL
abbrev ER : Emb (UR) (MT nD τ sig Unit (Elt F) ℕ UU ℕ) := embR

/-! ### What the items hold -/

/-- The checksums of rows. -/
def sums (v : Vec F S512x512 .bf16) : Vec F S32x512 .f32 := k0_pay8 rowIds k0_pay3 k0_pay4 k0_pay5 v

/-- Rows as the contents of the buffer round `b` receives them in; -/
def rBuf (c : Dev nD) (b : Bool) (v : Vec F S512x512 .bf16) : Buf (Elt F) ((rM b).view.loc (c : Thread nD τ)) :=
  match b with
  | false => v
  | true => v
/-- checksums likewise. -/
def eBuf (c : Dev nD) (b : Bool) (v : Vec F S32x512 .f32) : Buf (Elt F) ((eM b).view.loc (c : Thread nD τ)) :=
  match b with
  | false => v
  | true => v

/-- Item `i` of the buffers sent from, at share `q`, the rows being `v`. -/
def srcAt (c : Dev nD) (q : PosShare TreeShare) (v : Vec F S512x512 .bf16) : Item → sProp 𝕄
  | some k => (chunk sM k).view.loc (c : Thread nD τ) ↦[(chunk sM k).view.set]{q} v
  | none => cM.view.loc (c : Thread nD τ) ↦[cM.view.set]{q} (sums v)

/-- Item `i` of the buffers round `b` receives in, holding what rows `v` send. -/
def dstAt (c : Dev nD) (b : Bool) (v : Vec F S512x512 .bf16) : Item → sProp 𝕄
  | some k => (chunk (rM b) k).view.loc (c : Thread nD τ) ↦[(chunk (rM b) k).view.set]{fullShare} (rBuf c b v)
  | none => (eM b).view.loc (c : Thread nD τ) ↦[(eM b).view.set]{fullShare} (eBuf c b (sums v))

/-- Item `i` of the buffers round `b` receives in, holding anything. -/
def dstAny (c : Dev nD) (b : Bool) : Item → sProp 𝕄
  | some k => iprop(∃ f, (chunk (rM b) k).view.loc (c : Thread nD τ) ↦[(chunk (rM b) k).view.set]{fullShare} f)
  | none => iprop(∃ f, (eM b).view.loc (c : Thread nD τ) ↦[(eM b).view.set]{fullShare} f)

/-- Round `b` reads what is sent through its own half. -/
def half (b : Bool) : PosShare TreeShare := bif b then fullShare.right else fullShare.left

instance srcAt_storable (c : Dev nD) (q : PosShare TreeShare) (v : Vec F S512x512 .bf16) (i : Item) :
    Storable (upEmb : UEmb _ 𝕄) (srcAt c q v i) := by cases i <;> (unfold srcAt; infer_instance)
instance dstAt_storable (c : Dev nD) (b : Bool) (v : Vec F S512x512 .bf16) (i : Item) :
    Storable (upEmb : UEmb _ 𝕄) (dstAt c b v i) := by cases i <;> (unfold dstAt; infer_instance)
instance dstAny_storable (c : Dev nD) (b : Bool) (i : Item) :
    Storable (upEmb : UEmb _ 𝕄) (dstAny (F := F) c b i) := by cases i <;> (unfold dstAny; infer_instance)

/-! ### The schedule -/

/-- What an item's transfer adds to a semaphore. -/
def amt : Item → ℕ
  | some k => (chunk sM k).view.dmaCredit
  | none => cM.view.dmaCredit

theorem amt_pos (i : Item) : 0 < amt i := by
  cases i with
  | none => exact View.dmaCredit_pos _ (by decide)
  | some k => exact View.dmaCredit_pos _ (by decide)

/-- The amount paid on a semaphore of the exchange. -/
def amtOf : Option (Option Slot) → ℕ
  | some (some x) => amt x.2.2
  | _ => 1

theorem amtOf_pos (x : Option (Option Slot)) : 0 < amtOf x := by
  rcases x with _ | _ | x
  · exact Nat.one_pos
  · exact Nat.one_pos
  · exact amt_pos _

/-- Where device `c` receives item `x.2` of round `x.1`, and that its semaphore may be paid. -/
def room (c : Dev nD) (x : Bool × Item) : sProp 𝕄 :=
  iprop(dstAny (F := F) c x.1 x.2 ∗ reached ER (gotCell c x.1 x.2) 0)

/-- Paid to device `c`'s barrier by the device across: where that one receives, and that the semaphore it leaves on may be paid. -/
def barPay (c : Dev nD) : sProp 𝕄 :=
  iprop(bigSep Finset.univ (fun x => room (F := F) (far c) x) ∗ reached ER (endCell (far c)) 0)

/-- What comes with a payment on device `c`'s semaphore of a name, the devices' rows being `P`. -/
def payOf (P : Dev nD → Vec F S512x512 .bf16) (c : Dev nD) : Option (Option Slot) → sProp 𝕄
  | none => barPay (F := F) c
  | some none => iprop(emp)
  | some (some (false, b, i)) => srcAt c (half b) (P c) i
  | some (some (true, b, i)) => dstAt c b (P (far c)) i

instance payOf_storable (P : Dev nD → Vec F S512x512 .bf16) (c : Dev nD) (x : Option (Option Slot)) :
    Storable (upEmb : UEmb _ 𝕄) (payOf P c x) := by
  rcases x with _ | _ | ⟨_ | _, b, i⟩
  · unfold payOf barPay room; infer_instance
  · unfold payOf; infer_instance
  · unfold payOf; infer_instance
  · unfold payOf; infer_instance

/-- One payment, in the first round, on every semaphore of the exchange. -/
def rd (P : Dev nD → Vec F S512x512 .bf16) : Schedule (GSem nD τ sig) Unit 𝕄 where
  duties g r := if r = 0 ∧ g.1.2 = .tc ∧ (nameOf g.2).isSome then {()} else ∅
  unitless _ := False
  amount g _ _ := match nameOf g.2 with
    | some x => amtOf x
    | none => 1
  payload g _ _ := match nameOf g.2 with
    | some x => payOf P g.1.1 x
    | none => iprop(emp)
  amount_pos g _ _ _ := by
    split
    · exact amtOf_pos _
    · exact Nat.one_pos

instance rd_storable (P : Dev nD → Vec F S512x512 .bf16) (g : GSem nD τ sig) (r : ℕ) (d : Unit) :
    Storable (upEmb : UEmb _ 𝕄) ((rd P).payload g r d) := by
  show Storable upEmb (match nameOf g.2 with
    | some x => payOf P g.1.1 x
    | none => iprop(emp))
  split <;> infer_instance

section Sched

variable (P : Dev nD → Vec F S512x512 .bf16) (c : Dev nD) (x : Option (Option Slot))

theorem duties_cell : (rd P).duties (cell c x) 0 = {()} := by
  dsimp only [rd]; exact if_pos ⟨rfl, rfl, by rw [nameOf_semOf]; rfl⟩
theorem mem_duties : () ∈ (rd P).duties (cell c x) 0 := by rw [duties_cell]; exact Finset.mem_singleton_self _
theorem duties_later (g : GSem nD τ sig) : ∀ r, 1 ≤ r → (rd P).duties g r = ∅ :=
  fun r hr => by dsimp only [rd]; rw [if_neg (fun h => by omega)]
theorem amount_cell (u : Unit) : (rd P).amount (cell c x) 0 u = amtOf x := by
  dsimp only [rd]; rw [nameOf_semOf]
theorem expect_cell : (rd P).expect (cell c x) 0 = amtOf x := by
  unfold Schedule.expect Schedule.amountOf; rw [duties_cell, Finset.sum_singleton, amount_cell]
theorem payload_cell (u : Unit) : (rd P).payload (cell c x) 0 u = payOf P c x := by
  dsimp only [rd]; rw [nameOf_semOf]
theorem rest_cell : bigSep ((rd P).duties (cell c x) 0 \ ∅) (fun u => (rd P).payload (cell c x) 0 u) = payOf P c x := by
  rw [Finset.sdiff_empty, duties_cell, bigSep_singleton, payload_cell]

end Sched

/-! ### What is owed, and in what order waits depend on one another -/

/-- What is owed on the semaphores round `b`'s listed items arrive on, across from `c`. -/
def dues (c : Dev nD) (b : Bool) : List Item → CellTallies nD τ sig Unit
  | [] => 0
  | i :: l => dues c b l + tallyAt (gotCell (far c) b i) () (amt i)

/-- The unit owed on the semaphore the device across leaves on. -/
abbrev dueEnd (c : Dev nD) : CellTallies nD τ sig Unit := tallyAt (endCell (far c)) () 1
abbrev dueBar (c : Dev nD) : CellTallies nD τ sig Unit := tallyAt (barCell (far c)) () 1

/-- What device `c` owes when the kernel starts, all to the device across: in the order it pays, last first, the unit that
    one leaves on, the two rounds' items, the barrier's unit. -/
def owed (c : Dev nD) : CellTallies nD τ sig Unit := ((dueEnd c + dues c true items) + dues c false items) + dueBar c

def L (g : GSem nD τ sig) : Finset Unit := if g.1.2 = .tc then {()} else ∅
/-- A wait's level: arrivals after the barrier, leaving last. -/
def lvOf : Option (Option Slot) → ℕ
  | none => 1
  | some none => 3
  | some (some (true, _)) => 2
  | some (some (false, _)) => 0
def lv (g : GSem nD τ sig) (_ : Unit) : ℕ := match nameOf g.2 with
  | some x => lvOf x
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Option (Option Slot)) (u : Unit) : lv (cell c x) u = lvOf x := by
  unfold lv; rw [nameOf_semOf]

/-- Everything owed in `O` is above level `n`. -/
def Above (n : ℕ) (O : CellTallies nD τ sig Unit) : Prop := ∀ g u, 0 < O g u → u ∈ L g ∧ n < lv g u

theorem above_zero (n : ℕ) : Above n 0 := fun _ _ h => absurd h (Nat.lt_irrefl 0)
theorem above_add {n : ℕ} {O O' : CellTallies nD τ sig Unit} (h : Above n O) (h' : Above n O') : Above n (O + O') := fun g u hg => by
  rw [show (O + O') g u = O g u + O' g u from rfl] at hg
  by_cases h0 : 0 < O g u
  · exact h g u h0
  · exact h' g u (by omega)
theorem above_tally {n : ℕ} (c : Dev nD) (x : Option (Option Slot)) (k : ℕ) (h : n < lvOf x) : Above n (tallyAt (cell c x) () k) :=
  fun g u hg => by
    rw [tallyAt_apply] at hg
    by_cases e : g = cell c x ∧ u = ()
    · rw [e.1, L_tc, lv_cell]; exact ⟨Finset.mem_singleton_self _, h⟩
    · rw [if_neg e] at hg; exact absurd hg (Nat.lt_irrefl 0)
theorem above_dues {n : ℕ} (c : Dev nD) (b : Bool) (h : n < 2) (l : List Item) : Above n (dues c b l) := by
  induction l with
  | nil => exact above_zero n
  | cons i l ih => exact above_add ih (above_tally _ _ _ h)

/-- A wait on a semaphore of level at most `n` may be made while what is owed is above `n`. -/
theorem mayWait (c : Dev nD) (x : Option (Option Slot)) {n : ℕ} (hx : lvOf x ≤ n) {O : CellTallies nD τ sig Unit} (hO : Above n O) :
    (levAts L lv : sProp 𝕄) ⊢ MayWait (c : Thread nD τ) (semOf x) () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact (lv_cell c x ()).trans_le hx)
    (fun g u hg => (hO g u hg).2)

/-! ### Closing and opening -/

/-- A semaphore whose one payment was taken is given back at zero. -/
theorem close (P : Dev nD → Vec F S512x512 .bf16) (κ : ℕ) (g : GSem nD τ sig) :
    iprop(cellInv ER (rd P) κ g ∗ atPos ER g (0 + 1) ∅ 0) ⊢ (|={Set.univ}=> semVal g 0 : sProp 𝕄) :=
  Rounds.cell_close ER (rd P) (Set.mem_univ κ) id (duties_later P g)

abbrev 𝒱₀ : Variants := Variants.none

end Cert.KernelIdeal.Rows

end
-- ==== Proof.Steps.lean ====
/- One item's steps: sending it, and waiting for it. Then a whole list of items. -/
module

public import proofs.«01_k».proof.Proof.Proto

@[expose] public section

noncomputable section

namespace Cert.KernelIdeal.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Cert.KernelIdeal Cert.KernelIdeal.Gen

variable {F : FTy → Type} [FloatOps F]

local notation "𝕄" => MT nD τ sig Unit (Elt F) ℕ UU ℕ

variable (P : Dev nD → Vec F S512x512 .bf16) (K : GSem nD τ sig → ℕ) (c : Dev nD)

/-- Chunk `k` of rows `v` written over chunk `k` of the receiving buffer leaves the chunk of `v` there. -/
theorem chunk_landed (c' : Dev nD) (b : Bool) (k : Fin 32) (v : Vec F S512x512 .bf16)
    (fd : Buf (Elt F) ((chunk (rM b) k).view.loc (c' : Thread nD τ))) :
    ((chunk (rM b) k).view.loc (c' : Thread nD τ) ↦[(chunk (rM b) k).view.set]{fullShare}
        ((chunk (rM b) k).view.write (Elt F) fd ((chunk sM k).view.read (Elt F) v) Finset.univ) : sProp 𝕄)
      = dstAt c' b v (some k) := by
  unfold dstAt
  refine pointsTo_congr fun i hi => ?_
  obtain ⟨x, -, rfl⟩ := Finset.mem_map.mp hi
  rw [View.write_emb_of_mem _ _ (Finset.mem_univ _), View.read_apply]
  cases b <;> rfl

/-- The checksums of `v` written over the receiving buffer leave the checksums of `v` there. -/
theorem sums_landed (c' : Dev nD) (b : Bool) (v : Vec F S512x512 .bf16)
    (fd : Buf (Elt F) ((eM b).view.loc (c' : Thread nD τ))) :
    ((eM b).view.loc (c' : Thread nD τ) ↦[(eM b).view.set]{fullShare}
        ((eM b).view.write (Elt F) fd (cM.view.read (Elt F) (sums v)) Finset.univ) : sProp 𝕄)
      = dstAt c' b v none := by
  unfold dstAt
  refine pointsTo_congr fun i hi => ?_
  obtain ⟨x, -, rfl⟩ := Finset.mem_map.mp hi
  rw [View.write_emb_of_mem _ _ (Finset.mem_univ _), View.read_apply]
  cases b <;> rfl

/-- What device `c` sends item `i` of round `b` with. -/
def putRes (b : Bool) (i : Item) : sProp 𝕄 :=
  iprop(cellInv ER (rd P) (K (sentCell c b i)) (sentCell c b i) ∗ cellInv ER (rd P) (K (gotCell (far c) b i)) (gotCell (far c) b i)
    ∗ srcAt c (half b) (P c) i ∗ room (F := F) (far c) (b, i)
    ∗ dutyTok ER (sentCell c b i) 0 () ∗ reached ER (sentCell c b i) 0 ∗ dutyTok ER (gotCell (far c) b i) 0 ())

/-- Sending an item pays the arrival owed across, and leaves a claim on the item's source. -/
theorem wp_put (b : Bool) (i : Item) (O : CellTallies nD τ sig Unit) (W : Waits sig Unit)
    (k : PUnit → Prog (TpuEff nD τ sig (Elt F) Λ₀ .tc) PUnit) (Q : PUnit → sProp 𝕄) :
    iprop(putRes P K c b i ∗ owes (c : Thread nD τ) (O + tallyAt (gotCell (far c) b i) () (amt i)) W)
      ⊢ iprop(((cred (tallyAt (sentCell c b i) () (amt i)) ∗ owes (c : Thread nD τ) O W)
            -∗ wp frame (wpE (defs₀ (F := F)) 𝒱₀ c none) Set.univ (k ⟨⟩) Q)
          -∗ wp frame (wpE (defs₀ (F := F)) 𝒱₀ c none) Set.univ (put b c i >>= k) Q) := by
  cases i with
  | some j =>
    unfold putRes room dstAny srcAt put putChunk
    simp only [Prog.lift, Prog.bind_op, Prog.bind_ret]
    iintro ⟨⟨#HI1, #HI2, Hsrc, ⟨⟨%fd, Hdst⟩, #Hr2⟩, Ht1, #Hr1, Ht2⟩, HO⟩ Hk
    iapply (Rounds.wp_send_pointsTo 𝒱₀ ER (rd P) (c : Thread nD τ) none (c' := (far c : Thread nD τ)) (src := chunk sM j) (dst := chunk (rM b) j)
      (sS := sentS b (some j)) (sem := gotS b (some j)) (q := half b) (fs := P c)
      (κ₁ := K (sentCell c b (some j))) (κ₂ := K (gotCell (far c) b (some j)))
      (r₁ := 0) (r₂ := 0) (d₁ := ()) (d₂ := ()) (fd := fd)
      (mem_duties P c _) (mem_duties P (far c) _)
      () () (amt (some j)) rfl (amount_cell P c _ ()) (amount_cell P (far c) _ ()) O rfl (W := W)
      (by rw [payload_cell]; exact BI.Entails.refl _)
      (by rw [payload_cell]; unfold payOf; rw [chunk_landed, far_far])) $$ [Hsrc Hdst HO Ht1 Ht2]
    · isplitr; · iexact HI1
      isplitr; · iexact HI2
      isplitl [Hsrc]; · iexact Hsrc
      isplitl [Hdst]; · iexact Hdst
      isplitl [HO]; · iexact HO
      isplitl [Ht1]; · iexact Ht1
      isplitr; · iexact Hr1
      isplitl [Ht2]; · iexact Ht2
      iexact Hr2
    iexact Hk
  | none =>
    unfold putRes room dstAny srcAt put putSums
    simp only [Prog.lift, Prog.bind_op, Prog.bind_ret]
    iintro ⟨⟨#HI1, #HI2, Hsrc, ⟨⟨%fd, Hdst⟩, #Hr2⟩, Ht1, #Hr1, Ht2⟩, HO⟩ Hk
    iapply (Rounds.wp_send_pointsTo 𝒱₀ ER (rd P) (c : Thread nD τ) none (c' := (far c : Thread nD τ)) (src := cM) (dst := eM b)
      (sS := sentS b none) (sem := gotS b none) (q := half b) (fs := sums (P c))
      (κ₁ := K (sentCell c b none)) (κ₂ := K (gotCell (far c) b none))
      (r₁ := 0) (r₂ := 0) (d₁ := ()) (d₂ := ()) (fd := fd)
      (mem_duties P c _) (mem_duties P (far c) _)
      () () (amt none) rfl (amount_cell P c _ ()) (amount_cell P (far c) _ ()) O rfl (W := W)
      (by rw [payload_cell]; exact BI.Entails.refl _)
      (by rw [payload_cell]; unfold payOf; rw [sums_landed, far_far])) $$ [Hsrc Hdst HO Ht1 Ht2]
    · isplitr; · iexact HI1
      isplitr; · iexact HI2
      isplitl [Hsrc]; · iexact Hsrc
      isplitl [Hdst]; · iexact Hdst
      isplitl [HO]; · iexact HO
      isplitl [Ht1]; · iexact Ht1
      isplitr; · iexact Hr1
      isplitl [Ht2]; · iexact Ht2
      iexact Hr2
    iexact Hk

/-- What device `c` waits for item `i` of round `b` with. -/
def takeRes (b : Bool) (i : Item) : sProp 𝕄 :=
  iprop(cellInv ER (rd P) (K (sentCell c b i)) (sentCell c b i) ∗ cellInv ER (rd P) (K (gotCell c b i)) (gotCell c b i)
    ∗ atPos ER (sentCell c b i) 0 ∅ 0 ∗ atPos ER (gotCell c b i) 0 ∅ 0
    ∗ cred (tallyAt (sentCell c b i) () (amt i)) ∗ cred (tallyAt (gotCell c b i) () (amt i)))

/-- What it has after: the item's source back, what arrived, and the two semaphores at zero. -/
def taken (b : Bool) (i : Item) : sProp 𝕄 :=
  iprop(srcAt c (half b) (P c) i ∗ dstAt c b (P (far c)) i ∗ semVal (sentCell c b i) 0 ∗ semVal (gotCell c b i) 0)

/-- A wait for one of the exchange's DMA semaphores. -/
theorem wp_takeOne (x : Slot) {sp sp' : Space} {s s' : Shape} {e e' : EltTy} {κ' : Kind} {src : Memref sig .tc sp' s' e'} {dst : Memref sig κ' sp s e}
    {hsrc : src.view.WordExact} {hdst : dst.view.WordExact} (ha : dst.view.dmaCredit = amt x.2.2)
    {O : CellTallies nD τ sig Unit} (hO : Above 2 O) (W : Waits sig Unit)
    (k : PUnit → Prog (TpuEff nD τ sig (Elt F) Λ₀ .tc) PUnit) (Q : PUnit → sProp 𝕄) :
    iprop((cellInv ER (rd P) (K (cell c (some (some x)))) (cell c (some (some x))) ∗ atPos ER (cell c (some (some x))) 0 ∅ 0
        ∗ cred (tallyAt (cell c (some (some x))) () (amt x.2.2))) ∗ levAts L lv ∗ owes (c : Thread nD τ) O W)
      ⊢ iprop(((payOf P c (some (some x)) ∗ semVal (cell c (some (some x))) 0 ∗ ∃ W', owes (c : Thread nD τ) O W')
            -∗ wp frame (wpE (defs₀ (F := F)) 𝒱₀ c none) Set.univ (k ⟨⟩) Q)
          -∗ wp frame (wpE (defs₀ (F := F)) 𝒱₀ c none) Set.univ (.op (.waitDma2 (dmaOf x) src dst hsrc hdst) k) Q) := by
  iintro ⟨⟨#HI, Hat, Hc⟩, #Hlev, HO⟩ Hk
  iapply (Rounds.wp_wait_rest_token 𝒱₀ ER (rd P) (c : Thread nD τ) none (κ := K (cell c (some (some x)))) (sm := semOf (some (some x)))
      (wpE_waitDma2_eq (src := src) (dst := dst) 𝒱₀ (c : Thread nD τ) none Set.univ) (Set.mem_univ _) () (O := O) (W := W) (R := 0) (m := 0) (T := ∅)
      ((Nat.zero_add _).trans (ha.trans (expect_cell P c (some (some x))).symm))) $$ [Hc HO Hat]
  · isplitr; · iexact HI
    isplitl [Hc]; · rw [ha]; iexact Hc
    isplitl [HO]; · iexact HO
    isplitr
    · iapply (mayWait c (some (some x)) (n := 2) (by rcases x with ⟨_ | _, _⟩ <;> exact of_decide_eq_true rfl) hO); iexact Hlev
    iexact Hat
  iintro ⟨HO, Hat, -, Hpay⟩
  ihave Hpay := (Entails.of_eq (rest_cell P c (some (some x)))) $$ Hpay
  imod (close P (K (cell c (some (some x)))) (cell c (some (some x)))) $$ [Hat] with Hz
  · isplitr; · iexact HI
    iexact Hat
  iapply Hk
  isplitl [Hpay]; · iexact Hpay
  isplitl [Hz]; · iexact Hz
  iexists _; iexact HO

/-- Waiting for an item. -/
theorem wp_take (b : Bool) (i : Item) {O : CellTallies nD τ sig Unit} (hO : Above 2 O) (W : Waits sig Unit)
    (k : PUnit → Prog (TpuEff nD τ sig (Elt F) Λ₀ .tc) PUnit) (Q : PUnit → sProp 𝕄) :
    iprop(takeRes P K c b i ∗ levAts L lv ∗ owes (c : Thread nD τ) O W)
      ⊢ iprop(((taken P c b i ∗ ∃ W', owes (c : Thread nD τ) O W')
            -∗ wp frame (wpE (defs₀ (F := F)) 𝒱₀ c none) Set.univ (k ⟨⟩) Q)
          -∗ wp frame (wpE (defs₀ (F := F)) 𝒱₀ c none) Set.univ (take b i >>= k) Q) := by
  have key : ∀ (sp₁ sp₂ sp₃ sp₄ : Space) (s₁ s₂ s₃ s₄ : Shape) (e₁ e₂ e₃ e₄ : EltTy)
      (src : Memref sig .tc sp₁ s₁ e₁) (dst : Memref sig .tc sp₂ s₂ e₂) (src' : Memref sig .tc sp₃ s₃ e₃) (dst' : Memref sig .tc sp₄ s₄ e₄)
      (h₁ : src.view.WordExact) (h₂ : dst.view.WordExact) (h₃ : src'.view.WordExact) (h₄ : dst'.view.WordExact)
      (_ : dst.view.dmaCredit = amt i) (_ : dst'.view.dmaCredit = amt i),
      iprop(takeRes P K c b i ∗ levAts L lv ∗ owes (c : Thread nD τ) O W)
      ⊢ iprop(((taken P c b i ∗ ∃ W', owes (c : Thread nD τ) O W')
            -∗ wp frame (wpE (defs₀ (F := F)) 𝒱₀ c none) Set.univ (k ⟨⟩) Q)
          -∗ wp frame (wpE (defs₀ (F := F)) 𝒱₀ c none) Set.univ
            (.op (.waitDma2 (dmaOf (false, b, i)) src dst h₁ h₂) fun _ => .op (.waitDma2 (dmaOf (true, b, i)) src' dst' h₃ h₄) k) Q) := by
    intro sp₁ sp₂ sp₃ sp₄ s₁ s₂ s₃ s₄ e₁ e₂ e₃ e₄ src dst src' dst' h₁ h₂ h₃ h₄ ha hb
    unfold takeRes
    iintro ⟨⟨#HI1, #HI2, Hat1, Hat2, Hc1, Hc2⟩, #Hlev, HO⟩ Hk
    iapply (wp_takeOne P K c (false, b, i) ha hO W) $$ [Hat1 Hc1 HO]
    · isplitl [Hat1 Hc1]
      · isplitr; · iexact HI1
        isplitl [Hat1] <;> iassumption
      isplitr; · iexact Hlev
      iexact HO
    iintro ⟨Hs, Hz1, ⟨%W1, HO⟩⟩
    iapply (wp_takeOne P K c (true, b, i) hb hO W1) $$ [Hat2 Hc2 HO]
    · isplitl [Hat2 Hc2]
      · isplitr; · iexact HI2
        isplitl [Hat2] <;> iassumption
      isplitr; · iexact Hlev
      iexact HO
    iintro ⟨Hd, Hz2, HO⟩
    iapply Hk
    unfold taken payOf
    isplitr [HO]
    · isplitl [Hs]; · iexact Hs
      isplitl [Hd]; · iexact Hd
      isplitl [Hz1] <;> iassumption
    iexact HO
  cases i with
  | some j =>
    unfold take takeChunk
    simp only [Prog.lift, Prog.bind_op, Prog.bind_ret]
    exact key _ _ _ _ _ _ _ _ _ _ _ _ (chunk (rM b) j) (chunk sM j) (chunk sM j) (chunk (rM b) j) _ _ _ _ rfl rfl
  | none =>
    unfold take takeSums
    simp only [Prog.lift, Prog.bind_op, Prog.bind_ret]
    exact key _ _ _ _ _ _ _ _ _ _ _ _ (eM b) cM cM (eM b) _ _ _ _ rfl rfl

/-- Sending a list of items pays what is owed for them. -/
theorem wp_puts (b : Bool) (l : List Item) (O : CellTallies nD τ sig Unit) (W : Waits sig Unit)
    (k : PUnit → Prog (TpuEff nD τ sig (Elt F) Λ₀ .tc) PUnit) (Q : PUnit → sProp 𝕄) :
    iprop(bigSepL l (putRes P K c b) ∗ owes (c : Thread nD τ) (O + dues c b l) W)
      ⊢ iprop(((bigSepL l (fun i => cred (tallyAt (sentCell c b i) () (amt i))) ∗ owes (c : Thread nD τ) O W)
            -∗ wp frame (wpE (defs₀ (F := F)) 𝒱₀ c none) Set.univ (k ⟨⟩) Q)
          -∗ wp frame (wpE (defs₀ (F := F)) 𝒱₀ c none) Set.univ (each (put b c) l >>= k) Q) := by
  induction l with
  | nil =>
    unfold each
    simp only [Prog.pure_eq_ret, Prog.bind_ret, dues, add_zero, bigSepL_nil]
    iintro ⟨-, HO⟩ Hk
    iapply Hk
    isplitr; · iempintro
    iexact HO
  | cons i l ih =>
    rw [bigSepL_cons', bigSepL_cons', show each (put (F := F) b c) (i :: l) >>= k = put b c i >>= fun _ => each (put b c) l >>= k from bind_assoc _ _ _,
      show O + dues c b (i :: l) = (O + dues c b l) + tallyAt (gotCell (far c) b i) () (amt i) from (add_assoc _ _ _).symm]
    iintro ⟨⟨Hi, Hl⟩, HO⟩ Hk
    iapply (wp_put P K c b i (O + dues c b l) W) $$ [Hi HO]
    · isplitl [Hi] <;> iassumption
    iintro ⟨Hc, HO⟩
    iapply ih $$ [Hl HO]
    · isplitl [Hl] <;> iassumption
    iintro ⟨Hcs, HO⟩
    iapply Hk
    isplitr [HO]
    · isplitl [Hc]; · iexact Hc
      iexact Hcs
    iexact HO

/-- Waiting for a list of items, while all that is owed is above the waits' levels. -/
theorem wp_takes (b : Bool) (l : List Item) {O : CellTallies nD τ sig Unit} (hO : Above 2 O) (W : Waits sig Unit)
    (k : PUnit → Prog (TpuEff nD τ sig (Elt F) Λ₀ .tc) PUnit) (Q : PUnit → sProp 𝕄) :
    iprop(bigSepL l (takeRes P K c b) ∗ levAts L lv ∗ owes (c : Thread nD τ) O W)
      ⊢ iprop(((bigSepL l (taken P c b) ∗ ∃ W', owes (c : Thread nD τ) O W')
            -∗ wp frame (wpE (defs₀ (F := F)) 𝒱₀ c none) Set.univ (k ⟨⟩) Q)
          -∗ wp frame (wpE (defs₀ (F := F)) 𝒱₀ c none) Set.univ (each (take b) l >>= k) Q) := by
  induction l generalizing W with
  | nil =>
    unfold each
    simp only [Prog.pure_eq_ret, Prog.bind_ret, bigSepL_nil]
    iintro ⟨-, -, HO⟩ Hk
    iapply Hk
    isplitr; · iempintro
    iexists W; iexact HO
  | cons i l ih =>
    rw [bigSepL_cons', bigSepL_cons', show each (take (F := F) b) (i :: l) >>= k = take b i >>= fun _ => each (take b) l >>= k from bind_assoc _ _ _]
    iintro ⟨⟨Hi, Hl⟩, #Hlev, HO⟩ Hk
    iapply (wp_take P K c b i hO W) $$ [Hi HO]
    · isplitl [Hi]; · iexact Hi
      isplitr; · iexact Hlev
      iexact HO
    iintro ⟨Ht, ⟨%W1, HO⟩⟩
    iapply (ih W1) $$ [Hl HO]
    · isplitl [Hl]; · iexact Hl
      isplitr; · iexact Hlev
      iexact HO
    iintro ⟨Hts, HO⟩
    iapply Hk
    isplitr [HO]
    · isplitl [Ht] <;> iassumption
    iexact HO

end Cert.KernelIdeal.Rows

end
-- ==== Proof.Pieces.lean ====
/- The buffers cut into the items that are sent, and put together again; what the body's loads read and its stores leave. -/
module

public import proofs.«01_k».proof.Proof.Proto
public import Idealize.ShloMosaic.Lib.Ring
public import Idealize.ShloMosaic.Lib.Pipeline.Value

@[expose] public section

noncomputable section

namespace Cert.KernelIdeal.Rows

open Idealize.ShloMosaic Idealize.ShloMosaic.TcCoe
open Idealize.SL Idealize.SL.RA Idealize.SL.BI
open scoped Idealize.SL.BI Idealize.SL.RA Idealize.SL.RA.PCS
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-! ### Lists of items -/

/-- Two lists of resources over the same items are one list of pairs. -/
theorem bigSepL_both {M I : Type} [URA M] (l : List I) (Φ Ψ : I → sProp M) :
    iprop(bigSepL l Φ ∗ bigSepL l Ψ) = bigSepL l (fun i => iprop(Φ i ∗ Ψ i)) := by
  induction l with
  | nil => exact equiv_iff.mp sep_emp
  | cons i l ih =>
    rw [bigSepL_cons', bigSepL_cons', bigSepL_cons', ← ih]
    have h : (iprop((Φ i ∗ bigSepL l Φ) ∗ Ψ i ∗ bigSepL l Ψ) : sProp M) ⊣⊢ iprop((Φ i ∗ Ψ i) ∗ bigSepL l Φ ∗ bigSepL l Ψ) := by
      refine ⟨?_, ?_⟩
      · iintro ⟨⟨H1, H2⟩, H3, H4⟩
        isplitl [H1 H3]
        · isplitl [H1] <;> iassumption
        isplitl [H2] <;> iassumption
      · iintro ⟨⟨H1, H2⟩, H3, H4⟩
        isplitl [H1 H3]
        · isplitl [H1] <;> iassumption
        isplitl [H2] <;> iassumption
    exact equiv_iff.mp ⟨h.1, h.2⟩

theorem items_nodup : items.Nodup := by decide
theorem items_all : (Finset.univ : Finset Item) = items.toFinset := by decide

/-- Resources over all items of both rounds, listed round by round. -/
theorem bigSep_rounds {M : Type} [URA M] (Φ : Bool × Item → sProp M) :
    bigSep Finset.univ Φ = iprop(bigSepL items (fun i => Φ (false, i)) ∗ bigSepL items (fun i => Φ (true, i))) := by
  rw [bigSep_univ_prod, show (Finset.univ : Finset Bool) = {false, true} from by decide, bigSep_insert (by decide), bigSep_singleton,
    bigSep_univ_eq_bigSepL items items_all items_nodup, bigSep_univ_eq_bigSepL items items_all items_nodup]
  rfl

/-- The chunks, then the checksums. -/
theorem bigSepL_items {M : Type} [URA M] (Φ : Item → sProp M) :
    bigSepL items Φ = iprop(bigSep Finset.univ (fun k => Φ (some k)) ∗ Φ none) := by
  unfold items
  rw [bigSepL_append, bigSepL_map, bigSepL_singleton,
    bigSep_univ_eq_bigSepL (List.finRange 32) (by decide) (List.nodup_finRange 32)]

/-! ### The chunks of a buffer -/

/-- Different chunks share no element, -/
theorem chunks_disjoint {k k' : Fin 32} (h : k ≠ k') : Disjoint (chunkR k).set (chunkR k').set := by
  refine Rect.unit_disjoint (0 : Fin 2) ?_
  have : k.val ≠ k'.val := fun e => h (Fin.ext e)
  show 16 * k.val + 16 ≤ 16 * k'.val ∨ 16 * k'.val + 16 ≤ 16 * k.val
  omega

/-- and together they are the whole buffer. -/
theorem chunks_cover : Finset.univ.biUnion (fun k => (chunkR k).set) = (Finset.univ : Finset S512x512.Idx) := by
  ext i
  refine ⟨fun _ => Finset.mem_univ _, fun _ => Finset.mem_biUnion.mpr ?_⟩
  have h0 : (i (0 : Fin 2) : ℕ) < 512 := (i (0 : Fin 2)).isLt
  have h1 : (i (1 : Fin 2) : ℕ) < 512 := (i (1 : Fin 2)).isLt
  refine ⟨⟨(i (0 : Fin 2) : ℕ) / 16, by omega⟩, Finset.mem_univ _, Rect.mem_set_unit.mpr fun a => ?_⟩
  revert a
  refine Fin.forall_fin_two.mpr ⟨?_, ?_⟩
  · show 16 * ((i (0 : Fin 2) : ℕ) / 16) ≤ (i (0 : Fin 2) : ℕ) ∧ (i (0 : Fin 2) : ℕ) < 16 * ((i (0 : Fin 2) : ℕ) / 16) + 16
    omega
  · show 0 ≤ (i (1 : Fin 2) : ℕ) ∧ (i (1 : Fin 2) : ℕ) < 0 + 512
    omega

variable (c : Dev nD)

/-- A whole buffer of rows is held chunk by chunk. -/
theorem held_chunks {M : Memref sig .tc .vmem S512x512 .bf16} (hM : M.IsWhole) (q : PosShare TreeShare)
    (f : Buf (Elt F) (M.view.loc (c : Thread nD τ))) :
    (M.view.loc (c : Thread nD τ) ↦{q} f : sProp 𝕄)
      = bigSep Finset.univ fun k => (chunk M k).view.loc (c : Thread nD τ) ↦[(chunk M k).view.set]{q} f := by
  have e : ∀ k : Fin 32, (chunk M k).view.set = (chunkR k).set.map M.view.emb := fun k => View.set_slice _ _
  refine Ring.pointsTo_blocks (ℓ := M.view.loc (c : Thread nD τ)) (fun k : Fin 32 => (chunk M k).view.set) (fun k k' h => ?_) ?_ f
  · beta_reduce
    rw [e k, e k']
    exact (Finset.disjoint_map _).mpr (chunks_disjoint h)
  · rw [show (fun k : Fin 32 => (chunk M k).view.set) = fun k => (chunkR k).set.map M.view.emb from funext e]
    refine Eq.trans ?_ hM.set_eq_univ
    unfold View.set
    rw [← chunks_cover]
    ext i
    simp only [Finset.mem_biUnion, Finset.mem_map, Finset.mem_univ, true_and]
    exact ⟨fun ⟨k, x, hx, e⟩ => ⟨x, ⟨k, hx⟩, e⟩, fun ⟨x, ⟨k, hx⟩, e⟩ => ⟨k, x, hx, e⟩⟩

/-- What is sent from, whole, is its items. -/
theorem src_items (q : PosShare TreeShare) (v : Vec F S512x512 .bf16) :
    (iprop((sM.view.loc (c : Thread nD τ) ↦{q} v) ∗ (cM.view.loc (c : Thread nD τ) ↦{q} sums v)) : sProp 𝕄)
      = bigSepL items (srcAt c q v) := by
  rw [bigSepL_items, held_chunks c sM_whole q v]
  unfold srcAt
  rw [cM_whole.set_eq_univ]

/-- What a round received, item by item, is the whole buffers. -/
theorem dst_items (b : Bool) (v : Vec F S512x512 .bf16) :
    (iprop(((rM b).view.loc (c : Thread nD τ) ↦{fullShare} rBuf c b v) ∗ ((eM b).view.loc (c : Thread nD τ) ↦{fullShare} eBuf c b (sums v))) : sProp 𝕄)
      = bigSepL items (dstAt c b v) := by
  rw [bigSepL_items, held_chunks c (rM_whole b) fullShare (rBuf c b v)]
  unfold dstAt
  rw [(eM_whole b).set_eq_univ]

/-- The buffers a round receives in, whole, are room for its items. -/
theorem any_items (b : Bool) :
    (iprop((∃ f, (rM b).view.loc (c : Thread nD τ) ↦{fullShare} f) ∗ ∃ f, (eM b).view.loc (c : Thread nD τ) ↦{fullShare} f) : sProp 𝕄)
      ⊢ bigSepL items (dstAny c b) := by
  rw [bigSepL_items]
  unfold dstAny
  rw [(eM_whole b).set_eq_univ]
  iintro ⟨⟨%f, Hf⟩, He⟩
  isplitl [Hf]
  · ihave Hf := (Entails.of_eq (held_chunks c (rM_whole b) fullShare f)) $$ Hf
    have h : (bigSep Finset.univ fun k => (chunk (rM b) k).view.loc (c : Thread nD τ) ↦[(chunk (rM b) k).view.set]{fullShare} f : sProp 𝕄)
        ⊢ bigSep Finset.univ fun k => iprop(∃ f, (chunk (rM b) k).view.loc (c : Thread nD τ) ↦[(chunk (rM b) k).view.set]{fullShare} f) :=
      have h (k : Fin 32) : ((chunk (rM b) k).view.loc (c : Thread nD τ) ↦[(chunk (rM b) k).view.set]{fullShare} f : sProp 𝕄)
          ⊢ iprop(∃ f, (chunk (rM b) k).view.loc (c : Thread nD τ) ↦[(chunk (rM b) k).view.set]{fullShare} f) := by
        iintro H; iexists f; iexact H
      bigSep_mono fun k _ => h k
    iapply h $$ Hf
  iexact He

/-- The two rounds' halves are the whole. -/
theorem src_halves (v : Vec F S512x512 .bf16) :
    (iprop((sM.view.loc (c : Thread nD τ) ↦{fullShare} v) ∗ (cM.view.loc (c : Thread nD τ) ↦{fullShare} sums v)) : sProp 𝕄)
      ⊣⊢ iprop(bigSepL items (srcAt c (half false) v) ∗ bigSepL items (srcAt c (half true) v)) := by
  rw [← src_items, ← src_items]
  have h : fullShare ∈ half false ·? half true := by
    show fullShare ∈ fullShare.left ·? fullShare.right
    rw [PosShare.left_op_right]; exact Part.mem_some _
  have hs := pointsTo_share (Ix := Unit) (Name := ℕ) (U := UU) (Lvl := ℕ) (Val := Elt F) (ℓ := sM.view.loc (c : Thread nD τ)) (I := Finset.univ) (f := v) h
  have hc := pointsTo_share (Ix := Unit) (Name := ℕ) (U := UU) (Lvl := ℕ) (Val := Elt F) (ℓ := cM.view.loc (c : Thread nD τ)) (I := Finset.univ) (f := sums v) h
  refine ⟨?_, ?_⟩
  · iintro ⟨Hs, Hc⟩
    ihave Hs := hs.1 $$ Hs
    ihave Hc := hc.1 $$ Hc
    icases Hs with ⟨H1, H2⟩
    icases Hc with ⟨H3, H4⟩
    isplitl [H1 H3]
    · isplitl [H1] <;> iassumption
    isplitl [H2] <;> iassumption
  · iintro ⟨⟨H1, H3⟩, H2, H4⟩
    isplitl [H1 H2]
    · iapply hs.2; isplitl [H1] <;> iassumption
    iapply hc.2; isplitl [H3] <;> iassumption

/-! ### What loads read and stores leave -/

theorem zeros : (![0, 0] : Fin 2 → ℕ) = fun _ => 0 := by decide

theorem read_rBuf (b : Bool) (v : Vec F S512x512 .bf16) :
    (rM b).view.readAt (Elt F) allR.toLoadRect (rBuf c b v) = v := by
  cases b
  · exact Memref.readAt_unit_zero (Elt F) cc0_scratch1 zeros _ v
  · exact Memref.readAt_unit_zero (Elt F) cc0_scratch2 zeros _ v
theorem read_eBuf (b : Bool) (v : Vec F S32x512 .f32) :
    (eM b).view.readAt (Elt F) allC.toLoadRect (eBuf c b v) = v := by
  cases b
  · exact Memref.readAt_unit_zero (Elt F) cc0_scratch4 zeros _ v
  · exact Memref.readAt_unit_zero (Elt F) cc0_scratch5 zeros _ v
theorem read_s (v : Vec F S512x512 .bf16) : sM.view.readAt (Elt F) allR.toLoadRect v = v :=
  Memref.readAt_unit_zero (Elt F) cc0_scratch0 zeros _ v
theorem read_c (v : Vec F S32x512 .f32) : cM.view.readAt (Elt F) allC.toLoadRect v = v :=
  Memref.readAt_unit_zero (Elt F) cc0_scratch3 zeros _ v
theorem read_part (v : Vec F S512x512 .bf16) : partM.view.readAt (Elt F) allR.toLoadRect v = v :=
  Memref.readAt_unit_zero (Elt F) cc0_stg1_0 zeros _ v
theorem read_mask (v : Vec F S512x1 .i32) : maskM.view.readAt (Elt F) allM.toLoadRect v = v :=
  Memref.readAt_unit_zero (Elt F) cc0_stg0_0 zeros _ v
theorem write_s (f v : Vec F S512x512 .bf16) : (sM.access allR).write (Elt F) f v Finset.univ = v :=
  Memref.write_access_unit_zero_univ (Elt F) cc0_scratch0 zeros _ f v
theorem write_c (f v : Vec F S32x512 .f32) : (cM.access allC).write (Elt F) f v Finset.univ = v :=
  Memref.write_access_unit_zero_univ (Elt F) cc0_scratch3 zeros _ f v
theorem write_o (f v : Vec F S512x512 .f32) : (outM.access allR).write (Elt F) f v Finset.univ = v :=
  Memref.write_access_unit_zero_univ (Elt F) cc0_stg2_0 zeros _ f v

/-- What is stored to be sent is the rows looked up. -/
theorem pay2_eq (v : Vec F S512x512 .bf16) : k0_pay2 v = v := by
  unfold k0_pay2
  simp only [shapeCast_self]

end Cert.KernelIdeal.Rows

end
-- ==== Proof.Talk.lean ====
/- One device's run of the kernel body: the barrier with the device across, both rounds sent, both rounds waited for, the
   result stored, and the leaving handshake. -/
module

public import proofs.«01_k».proof.Proof.Steps
public import proofs.«01_k».proof.Proof.Pieces

@[expose] public section

noncomputable section

namespace Cert.KernelIdeal.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Cert.KernelIdeal Cert.KernelIdeal.Gen

variable {F : FTy → Type} [FloatOps F]

local notation "𝕄" => MT nD τ sig Unit (Elt F) ℕ UU ℕ

variable (P : Dev nD → Vec F S512x512 .bf16) (K : GSem nD τ sig → ℕ) (c : Dev nD)

/-! ### What a device holds for the items -/

/-- For item `i` of round `b`: the two semaphores here and the one across, the positions on the two here, the claim to the
    arrival, and the right to pay the one here and the one across. -/
def own (b : Bool) (i : Item) : sProp 𝕄 :=
  iprop(cellInv ER (rd P) (K (sentCell c b i)) (sentCell c b i) ∗ cellInv ER (rd P) (K (gotCell c b i)) (gotCell c b i)
    ∗ cellInv ER (rd P) (K (gotCell (far c) b i)) (gotCell (far c) b i)
    ∗ reached ER (sentCell c b i) 0 ∗ reached ER (gotCell c b i) 0
    ∗ atPos ER (sentCell c b i) 0 ∅ 0 ∗ atPos ER (gotCell c b i) 0 ∅ 0
    ∗ cred (tallyAt (gotCell c b i) () (amt i))
    ∗ dutyTok ER (sentCell c b i) 0 () ∗ dutyTok ER (gotCell (far c) b i) 0 ())

/-- What stays here while item `i` of round `b` is under way. -/
def rest (b : Bool) (i : Item) : sProp 𝕄 :=
  iprop(cellInv ER (rd P) (K (sentCell c b i)) (sentCell c b i) ∗ cellInv ER (rd P) (K (gotCell c b i)) (gotCell c b i)
    ∗ atPos ER (sentCell c b i) 0 ∅ 0 ∗ atPos ER (gotCell c b i) 0 ∅ 0 ∗ cred (tallyAt (gotCell c b i) () (amt i)))

/-- Every arrival's semaphore may be paid. -/
theorem own_reached (b : Bool) :
    bigSepL items (own P K c b) ⊢ iprop(bigSepL items (own P K c b) ∗ bigSepL items (fun i => (reached ER (gotCell c b i) 0 : sProp 𝕄))) := by
  rw [bigSepL_both]
  have h (i : Item) : own P K c b i ⊢ iprop(own P K c b i ∗ (reached ER (gotCell c b i) 0 : sProp 𝕄)) := by
    unfold own
    iintro ⟨#H1, #H2, #H3, #H4, #H5, H6⟩
    isplitl [H6]
    · isplitr; · iexact H1
      isplitr; · iexact H2
      isplitr; · iexact H3
      isplitr; · iexact H4
      isplitr; · iexact H5
      iexact H6
    iexact H5
  exact bigSepL_mono fun i _ => h i

/-- With what is sent and room for it across, a round can be sent. -/
theorem put_in (b : Bool) :
    iprop(bigSepL items (own P K c b) ∗ bigSepL items (srcAt c (half b) (P c)) ∗ bigSepL items (fun i => room (F := F) (far c) (b, i)))
      ⊢ iprop(bigSepL items (putRes P K c b) ∗ bigSepL items (rest P K c b)) := by
  rw [bigSepL_both, bigSepL_both, bigSepL_both]
  have h (i : Item) : iprop(own P K c b i ∗ srcAt c (half b) (P c) i ∗ room (F := F) (far c) (b, i))
      ⊢ iprop(putRes P K c b i ∗ rest P K c b i) := by
    unfold own putRes rest
    iintro ⟨⟨#H1, #H2, #H3, #H4, #H5, H6, H7, H8, H9, H10⟩, Hs, Hr⟩
    isplitl [Hs Hr H9 H10]
    · isplitr; · iexact H1
      isplitr; · iexact H3
      isplitl [Hs]; · iexact Hs
      isplitl [Hr]; · iexact Hr
      isplitl [H9]; · iexact H9
      isplitr; · iexact H4
      iexact H10
    isplitr; · iexact H1
    isplitr; · iexact H2
    isplitl [H6]; · iexact H6
    isplitl [H7]; · iexact H7
    iexact H8
  exact bigSepL_mono fun i _ => h i

/-- Once sent, a round can be waited for. -/
theorem take_in (b : Bool) :
    iprop(bigSepL items (rest P K c b) ∗ bigSepL items (fun i => (cred (tallyAt (sentCell c b i) () (amt i)) : sProp 𝕄)))
      ⊢ bigSepL items (takeRes P K c b) := by
  rw [bigSepL_both]
  have h (i : Item) : iprop(rest P K c b i ∗ cred (tallyAt (sentCell c b i) () (amt i))) ⊢ takeRes P K c b i := by
    unfold rest takeRes
    iintro ⟨⟨#H1, #H2, H6, H7, H8⟩, Hc⟩
    isplitr; · iexact H1
    isplitr; · iexact H2
    isplitl [H6]; · iexact H6
    isplitl [H7]; · iexact H7
    isplitl [Hc]; · iexact Hc
    iexact H8
  exact bigSepL_mono fun i _ => h i

/-- Round `b`'s semaphores, all at zero. -/
def zeroed (b : Bool) : sProp 𝕄 :=
  iprop(bigSepL items (fun i => semVal (sentCell c b i) 0) ∗ bigSepL items (fun i => semVal (gotCell c b i) 0))

/-- A round waited for: what was sent is back, what was received is here, whole, and the semaphores are at zero. -/
theorem take_out (b : Bool) :
    bigSepL items (taken P c b)
      ⊢ iprop(bigSepL items (srcAt c (half b) (P c))
        ∗ (((rM b).view.loc (c : Thread nD τ) ↦{fullShare} rBuf c b (P (far c)))
          ∗ ((eM b).view.loc (c : Thread nD τ) ↦{fullShare} eBuf c b (sums (P (far c)))))
        ∗ zeroed (F := F) c b) := by
  rw [dst_items]
  unfold zeroed
  rw [bigSepL_both, bigSepL_both, bigSepL_both]
  exact .rfl

/-! ### The body's start and end -/

/-- The six buffers the kernel allocates, at any contents. -/
def scr : sProp 𝕄 :=
  iprop((∃ f, sM.view.loc (c : Thread nD τ) ↦{fullShare} f) ∗ (∃ f, (rM false).view.loc (c : Thread nD τ) ↦{fullShare} f)
    ∗ (∃ f, (rM true).view.loc (c : Thread nD τ) ↦{fullShare} f) ∗ (∃ f, cM.view.loc (c : Thread nD τ) ↦{fullShare} f)
    ∗ (∃ f, (eM false).view.loc (c : Thread nD τ) ↦{fullShare} f) ∗ (∃ f, (eM true).view.loc (c : Thread nD τ) ↦{fullShare} f))

/-- What a device holds of the protocol when the body starts. -/
def opened : sProp 𝕄 :=
  iprop(cellInv ER (rd P) (K (barCell c)) (barCell c) ∗ cellInv ER (rd P) (K (endCell c)) (endCell c)
    ∗ cellInv ER (rd P) (K (barCell (far c))) (barCell (far c)) ∗ cellInv ER (rd P) (K (endCell (far c))) (endCell (far c))
    ∗ reached ER (endCell c) 0 ∗ reached ER (barCell (far c)) 0
    ∗ atPos ER (barCell c) 0 ∅ 0 ∗ atPos ER (endCell c) 0 ∅ 0
    ∗ dutyTok ER (barCell (far c)) 0 () ∗ dutyTok ER (endCell (far c)) 0 ()
    ∗ cred (tallyAt (barCell c) () 1) ∗ cred (tallyAt (endCell c) () 1)
    ∗ bigSepL items (own P K c false) ∗ bigSepL items (own P K c true))

/-- The result as the body computes it: from the mask, the rows looked up here, and those looked up across. -/
def outRaw (mk : Vec F S512x1 .i32) (p q : Vec F S512x512 .bf16) : Vec F S512x512 .f32 :=
  k0_pay1 (k0_pay9 (k0_pay6 (F := F) rowIds k0_pay3 k0_pay4 k0_pay5) k0_pay7 q (sums q)) (k0_pay13 mk)
    (k0_pay14 (k0_pay10 p) (k0_pay11 p) (k0_pay12 (k0_pay6 (F := F) rowIds k0_pay3 k0_pay4 k0_pay5) k0_pay7 p (sums p)) mk q) q

variable (mk : Vec F S512x1 .i32)

def talkPre (W : Waits sig Unit) : sProp 𝕄 :=
  iprop(opened P K c ∗ levAts L lv ∗ scr (F := F) c
    ∗ (partM.view.loc (c : Thread nD τ) ↦{fullShare} P c) ∗ (maskM.view.loc (c : Thread nD τ) ↦{fullShare} mk)
    ∗ (∃ f, outM.view.loc (c : Thread nD τ) ↦{fullShare} f) ∗ owes (c : Thread nD τ) (owed c) W)

def talkPost : sProp 𝕄 :=
  iprop((semVal (barCell c) 0 ∗ semVal (endCell c) 0 ∗ zeroed (F := F) c false ∗ zeroed (F := F) c true) ∗ scr (F := F) c
    ∗ (partM.view.loc (c : Thread nD τ) ↦{fullShare} P c) ∗ (maskM.view.loc (c : Thread nD τ) ↦{fullShare} mk)
    ∗ (outM.view.loc (c : Thread nD τ) ↦{fullShare} outRaw mk (P c) (P (far c)))
    ∗ ∃ W, owes (c : Thread nD τ) (0 : CellTallies nD τ sig Unit) W)

set_option maxHeartbeats 2000000 in
/-- The body's run. -/
theorem talkRun (W : Waits sig Unit) (Kt : PUnit → sProp 𝕄) :
    iprop(talkPre P K c mk W ∗ (talkPost P c mk -∗ Kt ⟨⟩))
      ⊢ wp frame (wpE (defs₀ (F := F)) 𝒱₀ c none) Set.univ (rolled (F := F)) Kt := by
  simp only [rolled, loadR, loadC, loadO, loadM, storeS, storeC, storeO, sendAll, takeAll, semSignalWord, semWaitWord, Prog.lift, Prog.bind_op, Prog.bind_ret,
    Prog.pure_eq_ret, wp_deviceId]
  unfold talkPre opened scr
  iintro ⟨⟨⟨#HIb, #HIe, #HIbF, #HIeF, #Hre, #HrbF, HatB, HatE, HtB, HtE, HcB, HcE, HoF, HoT⟩, #Hlev,
    ⟨⟨%fs, Hs⟩, HrF, HrT, ⟨%fc, Hc⟩, HeF, HeT⟩, Hp, Hm, ⟨%fo, Hout⟩, HO⟩, Hk⟩
  -- the rows, then their checksums, into the buffers sent from
  iapply (wp_load 𝒱₀ (c : Thread nD τ) none Set.univ (m := partM) (Finset.subset_univ _)) $$ Hp; iintro Hp
  rw [read_part]
  iapply (wp_load 𝒱₀ (c : Thread nD τ) none Set.univ (m := sM) (Finset.subset_univ _)) $$ Hs; iintro Hs
  iapply (wp_store 𝒱₀ (c : Thread nD τ) none Set.univ (m := sM) (r := allR) (Mk := Finset.univ) (Finset.subset_univ _)) $$ Hs; iintro Hs
  rw [write_s, pay2_eq]
  iapply (wp_load 𝒱₀ (c : Thread nD τ) none Set.univ (m := sM) (Finset.subset_univ _)) $$ Hs; iintro Hs
  rw [read_s]
  iapply (wp_load 𝒱₀ (c : Thread nD τ) none Set.univ (m := cM) (Finset.subset_univ _)) $$ Hc; iintro Hc
  iapply (wp_store 𝒱₀ (c : Thread nD τ) none Set.univ (m := cM) (r := allC) (Mk := Finset.univ) (Finset.subset_univ _)) $$ Hc; iintro Hc
  rw [write_c]
  -- the barrier: hand the device across this device's receiving buffers
  ihave HoF := (own_reached P K c false) $$ HoF
  icases HoF with ⟨HoF, HgF⟩
  ihave HoT := (own_reached P K c true) $$ HoT
  icases HoT with ⟨HoT, HgT⟩
  iapply (Rounds.wp_signal 𝒱₀ ER (rd P) (c : Thread nD τ) none (dst := (far c : Thread nD τ)) (sem := barrier0) (r := 0) (d := ()) (κ := K (barCell (far c)))
      (mem_duties P (far c) none) ((amount_cell P (far c) none ()).trans (by decide)) () ((dueEnd c + dues c true items) + dues c false items) rfl)
    $$ [HO HtB HrF HrT HeF HeT HgF HgT]
  · isplitr; · iexact HIbF
    isplitl [HO]; · iexact HO
    isplitl [HtB]; · iexact HtB
    isplitl [HrF HrT HeF HeT HgF HgT]
    · rw [show (rd P).payload ((far c : Thread nD τ), SemLoc.reg barrier0) 0 () = _ from payload_cell P (far c) none ()]; unfold payOf barPay; rw [far_far, bigSep_rounds]
      isplitr []
      · unfold room
        rw [← bigSepL_both, ← bigSepL_both]
        isplitl [HrF HeF HgF]
        · isplitl [HrF HeF]
          · iapply (any_items c false); isplitl [HrF] <;> iassumption
          iexact HgF
        · isplitl [HrT HeT]
          · iapply (any_items c true); isplitl [HrT] <;> iassumption
          iexact HgT
      iexact Hre
    iexact HrbF
  iintro HO
  iapply (Rounds.wp_wait_rest_token 𝒱₀ ER (rd P) (c : Thread nD τ) none (κ := K (barCell c)) (sm := semOf none)
      (wpE_semWait_eq 𝒱₀ (c : Thread nD τ) none Set.univ) (Set.mem_univ _) () (O := (dueEnd c + dues c true items) + dues c false items) (W := W) (R := 0) (m := 0) (T := ∅)
      ((Nat.zero_add 1).trans (expect_cell P c none).symm)) $$ [HcB HO HatB]
  · isplitr; · iexact HIb
    isplitl [HcB]; · iexact HcB
    isplitl [HO]; · iexact HO
    isplitr
    · iapply (mayWait c none (n := 1) (le_refl 1)
        (above_add (above_add (above_tally _ _ _ (by decide)) (above_dues c true (by decide) items)) (above_dues c false (by decide) items)))
      iexact Hlev
    iexact HatB
  iintro ⟨HO, HatB, -, Hpay⟩
  ihave Hpay := (Entails.of_eq (rest_cell P c none)) $$ Hpay
  unfold payOf barPay
  icases Hpay with ⟨Hroom, #HreF⟩
  ihave Hroom := (Entails.of_eq (bigSep_rounds _)) $$ Hroom
  icases Hroom with ⟨HroF, HroT⟩
  -- both rounds sent, each from its half
  ihave Hsc := (src_halves c (P c)).1 $$ [Hs Hc]
  · isplitl [Hs]; · iexact Hs
    iexact Hc
  icases Hsc with ⟨HsF, HsT⟩
  ihave HF := (put_in P K c false) $$ [HoF HsF HroF]
  · isplitl [HoF]; · iexact HoF
    isplitl [HsF] <;> iassumption
  icases HF with ⟨HpF, HkF⟩
  ihave HT := (put_in P K c true) $$ [HoT HsT HroT]
  · isplitl [HoT]; · iexact HoT
    isplitl [HsT] <;> iassumption
  icases HT with ⟨HpT, HkT⟩
  iapply (wp_puts P K c false items (dueEnd c + dues c true items) _) $$ [HpF HO]
  · isplitl [HpF]; · iexact HpF
    iexact HO
  iintro ⟨HcF, HO⟩
  iapply (wp_puts P K c true items (dueEnd c) _) $$ [HpT HO]
  · isplitl [HpT]; · iexact HpT
    iexact HO
  iintro ⟨HcT, HO⟩
  -- the first round waited for
  ihave HtF := (take_in P K c false) $$ [HkF HcF]
  · isplitl [HkF] <;> iassumption
  ihave HtT := (take_in P K c true) $$ [HkT HcT]
  · isplitl [HkT] <;> iassumption
  have hE : Above 2 (dueEnd c) := above_tally _ _ _ (by decide)
  iapply (wp_takes P K c false items hE _) $$ [HtF HO]
  · isplitl [HtF]; · iexact HtF
    isplitr; · iexact Hlev
    iexact HO
  iintro ⟨HtF, ⟨%W1, HO⟩⟩
  ihave HtF := (take_out P c false) $$ HtF
  icases HtF with ⟨HsF, ⟨HrF, HeF⟩, HzF⟩
  ihave HsF := (Entails.of_eq (src_items c (half false) (P c)).symm) $$ HsF
  icases HsF with ⟨Hs, Hc⟩
  iapply (wp_load 𝒱₀ (c : Thread nD τ) none Set.univ (m := rM false) (Finset.subset_univ _)) $$ HrF; iintro HrF
  rw [read_rBuf]
  iapply (wp_load 𝒱₀ (c : Thread nD τ) none Set.univ (m := eM false) (Finset.subset_univ _)) $$ HeF; iintro HeF
  rw [read_eBuf]
  iapply (wp_load 𝒱₀ (c : Thread nD τ) none Set.univ (m := partM) (Finset.subset_univ _)) $$ Hp; iintro Hp
  rw [read_part]
  iapply (wp_load 𝒱₀ (c : Thread nD τ) none Set.univ (m := cM) (Finset.subset_univ _)) $$ Hc; iintro Hc
  rw [read_c]
  iapply (wp_load 𝒱₀ (c : Thread nD τ) none Set.univ (m := sM) (Finset.subset_univ _)) $$ Hs; iintro Hs
  rw [read_s]
  iapply (wp_load 𝒱₀ (c : Thread nD τ) none Set.univ (m := partM) (Finset.subset_univ _)) $$ Hp; iintro Hp
  rw [read_part]
  iapply (wp_load 𝒱₀ (c : Thread nD τ) none Set.univ (m := maskM) (Finset.subset_univ _)) $$ Hm; iintro Hm
  rw [read_mask]
  iapply (wp_load 𝒱₀ (c : Thread nD τ) none Set.univ (m := rM false) (Finset.subset_univ _)) $$ HrF; iintro HrF
  rw [read_rBuf]
  ihave HsF := (Entails.of_eq (src_items c (half false) (P c))) $$ [Hs Hc]
  · isplitl [Hs]; · iexact Hs
    iexact Hc
  -- the second round waited for, and the result stored
  iapply (wp_takes P K c true items hE _) $$ [HtT HO]
  · isplitl [HtT]; · iexact HtT
    isplitr; · iexact Hlev
    iexact HO
  iintro ⟨HtT, ⟨%W2, HO⟩⟩
  ihave HtT := (take_out P c true) $$ HtT
  icases HtT with ⟨HsT, ⟨HrT, HeT⟩, HzT⟩
  ihave Hsc := (src_halves c (P c)).2 $$ [HsF HsT]
  · isplitl [HsF] <;> iassumption
  icases Hsc with ⟨Hs, Hc⟩
  iapply (wp_load 𝒱₀ (c : Thread nD τ) none Set.univ (m := rM true) (Finset.subset_univ _)) $$ HrT; iintro HrT
  rw [read_rBuf]
  iapply (wp_load 𝒱₀ (c : Thread nD τ) none Set.univ (m := outM) (Finset.subset_univ _)) $$ Hout; iintro Hout
  iapply (wp_store 𝒱₀ (c : Thread nD τ) none Set.univ (m := outM) (r := allR) (Mk := Finset.univ) (Finset.subset_univ _)) $$ Hout; iintro Hout
  rw [write_o]
  -- the leaving handshake
  iapply (Rounds.wp_signal 𝒱₀ ER (rd P) (c : Thread nD τ) none (dst := (far c : Thread nD τ)) (sem := cc0_scoped0.sem) (r := 0) (d := ()) (κ := K (endCell (far c)))
      (mem_duties P (far c) (some none)) ((amount_cell P (far c) (some none) ()).trans (by decide)) () 0 (zero_add _).symm)
    $$ [HO HtE]
  · isplitr; · iexact HIeF
    isplitl [HO]; · iexact HO
    isplitl [HtE]; · iexact HtE
    isplitr
    · rw [show (rd P).payload ((far c : Thread nD τ), SemLoc.reg cc0_scoped0.sem) 0 () = _ from payload_cell P (far c) (some none) ()]; unfold payOf; iempintro
    iexact HreF
  iintro HO
  iapply (Rounds.wp_wait_rest_token 𝒱₀ ER (rd P) (c : Thread nD τ) none (κ := K (endCell c)) (sm := semOf (some none))
      (wpE_semWait_eq 𝒱₀ (c : Thread nD τ) none Set.univ) (Set.mem_univ _) () (O := 0) (W := W2) (R := 0) (m := 0) (T := ∅)
      ((Nat.zero_add 1).trans (expect_cell P c (some none)).symm)) $$ [HcE HO HatE]
  · isplitr; · iexact HIe
    isplitl [HcE]; · iexact HcE
    isplitl [HO]; · iexact HO
    isplitr; · rw [MayWait_zero]; iempintro
    iexact HatE
  iintro ⟨HO, HatE, -, -⟩
  rw [wp_ret]
  imod (close P (K (barCell c)) (barCell c)) $$ [HatB] with Hb0
  · isplitr; · iexact HIb
    iexact HatB
  imod (close P (K (endCell c)) (endCell c)) $$ [HatE] with He0
  · isplitr; · iexact HIe
    iexact HatE
  imodintro
  iapply Hk
  unfold talkPost scr
  isplitl [Hb0 He0 HzF HzT]
  · isplitl [Hb0]; · iexact Hb0
    isplitl [He0]; · iexact He0
    isplitl [HzF] <;> iassumption
  isplitl [Hs HrF HrT Hc HeF HeT]
  · isplitl [Hs]; · iexists _; iexact Hs
    isplitl [HrF]; · iexists _; iexact HrF
    isplitl [HrT]; · iexists _; iexact HrT
    isplitl [Hc]; · iexists _; iexact Hc
    isplitl [HeF]; · iexists _; iexact HeF
    iexists _; iexact HeT
  isplitl [Hp]; · iexact Hp
  isplitl [Hm]; · iexact Hm
  isplitl [Hout]; · iexact Hout
  iexists _; iexact HO

end Cert.KernelIdeal.Rows

end
-- ==== Proof.Point.lean ====
/- The region as the pipeline calls it: what its windows hold before and after its one point, and the body's obligation there. -/
module

public import proofs.«01_k».proof.Proof.Talk
public import proofs.«01_k».proof.Proof.Gen.KernelIdeal.Regions

@[expose] public section

noncomputable section

namespace Cert.KernelIdeal.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok)
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ### What the region reads and leaves -/

/-- The rows device `c` looks up in its half of the table; -/
def partOf : Vec F S512x512 .bf16 := V4 m c main_v14
/-- which of its ids name rows of that half; -/
def maskOf : Vec F S512x1 .i32 := V4 m c main_v16
/-- and the result. -/
def outOf : Vec F S512x512 .f32 := outRaw (maskOf m c) (partOf m c) (partOf m (far c))

/-- What the region leaves in the result's buffer. -/
def outs : Outs (F := F) := fun _ r c => Function.update (V4 m c) main_v17 (outOf m c) r

theorem outs_result : outs m 5 main_v17 c = outOf m c := by unfold outs; rw [Function.update_self]

/-! ### The region's data -/

/-- What a device holds for the body, but for the windows. -/
def Φ₀ : sProp 𝕄 := iprop((∃ K, opened (partOf m) K c) ∗ levAts L lv ∗ scr (F := F) c ∗ ∃ r, prngReg c r)
/-- The kernel's own semaphores and the barrier's, all at zero. -/
def allZero : sProp 𝕄 := iprop(semVal (barCell c) 0 ∗ semVal (endCell c) 0 ∗ zeroed (F := F) c false ∗ zeroed (F := F) c true)
/-- What it holds after. -/
def Φ₁ : sProp 𝕄 := iprop(allZero (F := F) c ∗ scr (F := F) c ∗ ∃ r, prngReg c r)

def dat : Dat τ (Elt F) Unit ℕ UU ℕ cfg0 c where
  A w := match w with
    | ⟨0, _⟩ => maskOf m c
    | ⟨1, _⟩ => partOf m c
    | ⟨2, _⟩ => V4 m c main_v17
  after w _ := match w with
    | ⟨0, _⟩ => maskOf m c
    | ⟨1, _⟩ => partOf m c
    | ⟨2, _⟩ => outOf m c
  Φ t := if t.val = 0 then Φ₀ m c else Φ₁ c
  q _ := fullShare
  owed t := if t.val = 0 then owed c else 0

def pdats : (p : Fin 1) → (c : Dev nD) → Dat τ (Elt F) Unit ℕ UU ℕ (cfgs p) c
  | 0 => dat m

theorem owed_first : (dat m c).owed 0 = owed c := by
  show (if ((0 : Fin (cfg0.N + 1)).val = 0) then owed c else 0) = owed c; exact if_pos rfl
theorem owed_last : (dat m c).owed (Fin.last _) = 0 := by
  show (if (Fin.last cfg0.N).val = 0 then owed c else 0) = 0
  rw [Fin.val_last, if_neg (by rw [show cfg0.N = 1 from N_0]; decide)]

theorem owesAt_intro (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound; rw [h]
  iintro HO; iexists W; isplitr; · ipureintro; exact fun _ _ => Or.inl trivial
  iexact HO
theorem owesAt_elim (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-- Each window's one block is its whole array. -/
theorem blk_mask (f : main_v16.ty.Contents (Elt F)) : (win0_0.blk t0_0).view.read (Elt F) f = f :=
  Memref.read_access_unit_zero (Elt F) main_v16 (funext fun a => Nat.zero_mul _) _ f
theorem blk_part (f : main_v14.ty.Contents (Elt F)) : (win0_1.blk t0_0).view.read (Elt F) f = f :=
  Memref.read_access_unit_zero (Elt F) main_v14 (funext fun a => Nat.zero_mul _) _ f
theorem blk_out (f w : main_v17.ty.Contents (Elt F)) : (win0_2.blk t0_0).view.write (Elt F) f w Finset.univ = w :=
  Memref.write_access_unit_zero_univ (Elt F) main_v17 (funext fun a => Nat.zero_mul _) _ f w

theorem before_mask (d : (cfg0.win 0).block.Idx → Elt F (cfg0.win 0).elt) : (dat m c).before 0 t0_0 d = maskOf m c := by
  unfold Dat.before; rw [if_pos (fetch0_0 t0_0)]
  exact Eq.trans rfl (blk_mask (maskOf m c))
theorem before_part (d : (cfg0.win 1).block.Idx → Elt F (cfg0.win 1).elt) : (dat m c).before 1 t0_0 d = partOf m c := by
  unfold Dat.before; rw [if_pos (fetch0_1 t0_0)]
  exact Eq.trans rfl (blk_part (partOf m c))

/-- The arrays after the region: the operands as they were, the result written. -/
theorem arr_after (w : Fin 3) : (dat m c).arrAt w cfg0.N = V5 m (outs m) c (Proc.devRef .tc (Pipeline.arrRef spec0 w)) := by
  have h2 : (dat m c).arrAt 2 cfg0.N = outOf m c := by
    rw [show cfg0.N = t0_0.val + 1 from rfl]
    rw [Dat.arrAt_succ, if_pos (flush0_2 t0_0)]
    exact blk_out _ _
  fin_cases w
  · exact ((dat m c).arrAt_in 0 rfl _).trans (V5_of m (outs m) c main_v16 (by decide)).symm
  · exact ((dat m c).arrAt_in 1 rfl _).trans (V5_of m (outs m) c main_v14 (by decide)).symm
  · refine h2.trans ((outs_result m c).symm.trans ?_)
    exact (Function.update_self (Proc.devRef (τ := τ) .tc main_v17) (outs m 5 main_v17 c) (V4 m c)).symm

/-! ### The body's obligation -/

/-- Owning a staging buffer at contents is its points-to at them. -/
theorem owns_elim (b : Ref sig .tc) (X : b.ty.Contents (Elt F)) :
    (owns (c : Thread nD τ) (Memref.whole b) fullShare X : sProp 𝕄) ⊢ ((c : Thread nD τ).loc b) ↦{fullShare} X := by
  rw [owns_whole_eq]
  iintro ⟨%f, %h, H⟩; subst h; iexact H
theorem owns_intro (b : Ref sig .tc) (X : b.ty.Contents (Elt F)) :
    (((c : Thread nD τ).loc b) ↦{fullShare} X : sProp 𝕄) ⊢ owns (c : Thread nD τ) (Memref.whole b) fullShare X := by
  rw [owns_whole_eq]
  iintro H; iexists X; isplitr; · ipureintro; rfl
  iexact H

set_option maxRecDepth 65536 in
/-- What the pipeline calls at its one point. -/
theorem body_called : defs₀ (F := F) .tc cfg0.body (cfg0.bodyArgs t0_0 (cfg0.slots t0_0)) = rolled :=
  Eq.trans rfl body_rolled

/-- The body's obligation: its run. -/
theorem body_obligation : BodyObligation (dat m c) (defs₀ (F := F)) 𝒱₀ () Set.univ := fun t => by
  obtain rfl := fin_N0 t
  rw [bigSep_W0, bigSep_W0]
  rw [show (dat m c).Φ t0_0.castSucc = Φ₀ m c from rfl, show (dat m c).Φ t0_0.succ = Φ₁ c from rfl]
  rw [body_called]
  unfold Φ₀ Φ₁ allZero
  iintro ⟨⟨⟨%K, Hg⟩, Hlev, Hs, Hreg⟩, HO, ⟨%d0, H0⟩, ⟨%d1, H1⟩, ⟨%d2, H2⟩⟩
  ihave H0 := (BIBase.Entails.trans (Entails.of_eq (congrArg (owns (c : Thread nD τ) maskM fullShare) (before_mask m c d0)))
    (owns_elim c cc0_stg0_0 (maskOf m c))) $$ H0
  ihave H1 := (BIBase.Entails.trans (Entails.of_eq (congrArg (owns (c : Thread nD τ) partM fullShare) (before_part m c d1)))
    (owns_elim c cc0_stg1_0 (partOf m c))) $$ H1
  ihave H2 := (owns_elim c cc0_stg2_0 _) $$ H2
  ihave HO' := (owesAt_elim m c t0_0.castSucc (owed c) (owed_first m c)) $$ HO
  icases HO' with ⟨%W, HO⟩
  iapply (talkRun (partOf m) K c (maskOf m c) W _)
  isplitl [Hg Hlev Hs H0 H1 H2 HO]
  · unfold talkPre
    isplitl [Hg]; · iexact Hg
    isplitl [Hlev]; · iexact Hlev
    isplitl [Hs]; · iexact Hs
    isplitl [H1]; · iexact H1
    isplitl [H0]; · iexact H0
    isplitl [H2]; · iexists _; iexact H2
    iexact HO
  unfold talkPost
  iintro ⟨Hz, Hs, H1, H0, H2, ⟨%W', HO⟩⟩
  isplitl [Hz Hs Hreg]
  · isplitl [Hz]; · iexact Hz
    isplitl [Hs]; · iexact Hs
    iexact Hreg
  isplitl [HO]; · iapply (owesAt_intro m c t0_0.succ 0 (owed_last m c) W'); iexact HO
  isplitl [H0]; · iapply (owns_intro c cc0_stg0_0 (maskOf m c)) $$ H0
  isplitl [H1]; · iapply (owns_intro c cc0_stg1_0 (partOf m c)) $$ H1
  iapply (owns_intro c cc0_stg2_0 (outRaw (maskOf m c) (partOf m c) (partOf m (far c)))) $$ H2

end Cert.KernelIdeal.Rows

end
-- ==== Proof.Deal.lean ====
/- What each device is dealt at launch, and how it opens its own semaphores when the region starts: the invariants under one map
   of names, the rights to pay, and what the devices owe one another summed. -/
module

public import proofs.«01_k».proof.Proof.Point
public import Idealize.ShloMosaic.Lib.Pipeline.RegionTalk

@[expose] public section

noncomputable section

namespace Cert.KernelIdeal.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Cert.KernelIdeal Cert.KernelIdeal.Gen

variable {F : FTy → Type} [FloatOps F]

local notation "𝕄" => MT nD τ sig Unit (Elt F) ℕ UU ℕ

/-! ### Conjunctions over the names -/

/-- Over an option: the absent one, and the present ones. -/
theorem bigSep_option {M α : Type} [URA M] [Fintype α] [DecidableEq α] (Φ : Option α → sProp M) :
    bigSep Finset.univ Φ = iprop(Φ none ∗ bigSep Finset.univ fun a => Φ (some a)) := by
  have e : (Finset.univ : Finset (Option α)).erase none = Finset.univ.map Function.Embedding.some := by
    ext x; cases x <;> simp
  rw [bigSep_univ_at Φ none, e, BI.bigSep_map]
  rfl

/-- Over the kernel's own semaphores: the one it leaves on, the sender's, the receiver's. -/
theorem bigSep_slots {M : Type} [URA M] (Φ : Option Slot → sProp M) :
    bigSep Finset.univ Φ = iprop(Φ none ∗ (bigSep Finset.univ fun x : Bool × Item => Φ (some (false, x)))
      ∗ (bigSep Finset.univ fun x : Bool × Item => Φ (some (true, x)))) := by
  rw [bigSep_option, bigSep_univ_prod, show (Finset.univ : Finset Bool) = {false, true} from by decide,
    bigSep_insert (by decide), bigSep_singleton]
  rfl

/-! ### The cells the launch funds -/

theorem cell_eq {c c' : Dev nD} {x y : Option (Option Slot)} : cell c x = cell c' y ↔ c = c' ∧ x = y :=
  ⟨fun h => ⟨congrArg (fun g : GSem nD τ sig => g.1.1) h, semOf_inj (congrArg Prod.snd h)⟩, fun ⟨h, h'⟩ => by rw [h, h']⟩

def barEmb : Dev nD ↪ GSem nD τ sig := ⟨fun c => barCell c, fun _ _ h => (cell_eq.mp h).1⟩
def ownEmb : Dev nD × Option Slot ↪ GSem nD τ sig :=
  ⟨fun p => cell p.1 (some p.2), fun _ _ h => Prod.ext (cell_eq.mp h).1 (Option.some.inj (cell_eq.mp h).2)⟩
def tokEmb : Dev nD × Option (Option Slot) ↪ GSem nD τ sig × ℕ × Unit :=
  ⟨fun p => (cell p.1 p.2, 0, ()), fun _ _ h =>
    Prod.ext (cell_eq.mp (congrArg Prod.fst h)).1 (cell_eq.mp (congrArg Prod.fst h)).2⟩

/-- The barrier's cells, funded from their counters; the kernel's own, whose counters come when the region starts; one payment each. -/
abbrev barCells : Finset (GSem nD τ sig) := Finset.univ.map barEmb
abbrev ownCells : Finset (GSem nD τ sig) := Finset.univ.map ownEmb
abbrev payToks : Finset (GSem nD τ sig × ℕ × Unit) := Finset.univ.map tokEmb

theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact Option.some_ne_none _ (cell_eq.mp h).2

theorem bar_mem (c : Dev nD) : barCell c ∈ barCells := Finset.mem_map_of_mem barEmb (Finset.mem_univ c)
theorem cell_mem (c : Dev nD) (x : Option (Option Slot)) : cell c x ∈ barCells ∪ ownCells := by
  cases x with
  | none => exact Finset.mem_union_left _ (bar_mem c)
  | some x => exact Finset.mem_union_right _ (Finset.mem_map_of_mem ownEmb (Finset.mem_univ (c, x)))

/-! ### What every device may consult, and what is dealt to one -/

variable (P : Dev nD → Vec F S512x512 .bf16) (κ : GSem nD τ sig → ℕ) (c : Dev nD)

/-- All the invariants under one map of names, and that every barrier's cell may be paid. -/
def records : sProp 𝕄 :=
  iprop((bigSep (barCells ∪ ownCells) fun g => cellInv ER (rd P) (κ g) g) ∗ bigSep barCells fun g => reached ER g 0)

instance records_persistent : BI.Persistent (records P κ) := by unfold records; infer_instance

theorem records_inv (x : Option (Option Slot)) : records P κ ⊢ cellInv ER (rd P) (κ (cell c x)) (cell c x) := by
  unfold records
  iintro ⟨H, -⟩
  iapply (show (bigSep (barCells ∪ ownCells) fun g => (cellInv ER (rd P) (κ g) g : sProp 𝕄)) ⊢ cellInv ER (rd P) (κ (cell c x)) (cell c x) from
    bigSep_elim (cell_mem c x)) $$ H
theorem records_bar : records P κ ⊢ (reached ER (barCell c) 0 : sProp 𝕄) := by
  unfold records
  iintro ⟨-, H⟩
  iapply (show (bigSep barCells fun g => (reached ER g 0 : sProp 𝕄)) ⊢ reached ER (barCell c) 0 from bigSep_elim (bar_mem c)) $$ H

/-- Whose semaphore of a name device `c` pays: its own for what it sends, the device across's otherwise. -/
def payee (c : Dev nD) : Option (Option Slot) → Dev nD
  | some (some (false, _)) => c
  | _ => far c

theorem payee_payee (x : Option (Option Slot)) : payee (payee c x) x = c := by
  rcases x with _ | _ | ⟨_ | _, x⟩ <;> first | rfl | exact far_far c

theorem far_ne (c : Dev nD) : far c ≠ c := by revert c; decide +kernel

/-- Who pays what, both ways. -/
def paying : Dev nD × Option (Option Slot) ≃ Dev nD × Option (Option Slot) where
  toFun p := (payee p.1 p.2, p.2)
  invFun p := (payee p.1 p.2, p.2)
  left_inv p := Prod.ext (payee_payee p.1 p.2) rfl
  right_inv p := Prod.ext (payee_payee p.1 p.2) rfl

/-- Dealt to a device: its position at the barrier, the rights to open its own semaphores, the rights to pay. -/
def dealt : sProp 𝕄 :=
  iprop(atPos ER (barCell c) 0 ∅ 0 ∗ (bigSep Finset.univ fun x : Option Slot => openTok ER (cell c (some x)))
    ∗ bigSep Finset.univ fun x : Option (Option Slot) => dutyTok ER (cell (payee c x) x) 0 ())

/-- Its claims to what the device across pays. -/
def claims : sProp 𝕄 :=
  iprop(cred (tallyAt (barCell c) () 1) ∗ cred (tallyAt (endCell c) () 1)
    ∗ bigSep Finset.univ fun x : Bool × Item => cred (tallyAt (gotCell c x.1 x.2) () (amt x.2)))

/-- The rights to pay, one per cell, regrouped by who pays. -/
theorem toks_dealt : bigSep payToks (fun t => (dutyTok ER t.1 t.2.1 t.2.2 : sProp 𝕄))
    = bigSep Finset.univ fun c : Dev nD => bigSep Finset.univ fun x : Option (Option Slot) => dutyTok ER (cell (payee c x) x) 0 () := by
  rw [BI.bigSep_map, bigSep_univ_equiv paying, bigSep_univ_prod]
  exact bigSep_congr fun c _ => bigSep_congr fun x _ => rfl

/-! ### Opening -/

/-- With the rights and the counters, all its own semaphores open. -/
theorem open_own : iprop(records P κ ∗ (bigSep Finset.univ fun x : Option Slot => openTok ER (cell c (some x)))
      ∗ Pipeline.ownSems0 osem c)
    ⊢ (|={Set.univ}=> bigSep Finset.univ fun x : Option Slot => iprop(atPos ER (cell c (some x)) 0 ∅ 0 ∗ reached ER (cell c (some x)) 0) : sProp 𝕄) := by
  have h (x : Option Slot) : iprop(records P κ ∗ (openTok ER (cell c (some x)) ∗ semVal (cell c (some x)) 0))
      ⊢ (|={Set.univ}=> iprop(atPos ER (cell c (some x)) 0 ∅ 0 ∗ reached ER (cell c (some x)) 0) : sProp 𝕄) := by
    iintro ⟨HR, Ho, Hv⟩
    ihave HI := (records_inv P κ c (some x)) $$ HR
    iapply (Rounds.cell_open ER (rd P) (g := cell c (some x)) (Set.mem_univ (κ (cell c (some x)))))
    isplitl [HI]; · iexact HI
    isplitl [Ho] <;> iassumption
  refine BIBase.Entails.trans ?_ (bigSep_fupd _ _)
  refine BIBase.Entails.trans ?_ (bigSep_with_persistent (R := records P κ)
    (Φ := fun x : Option Slot => iprop(openTok ER (cell c (some x)) ∗ semVal (cell c (some x)) 0)) fun x _ => h x)
  rw [bigSep_sep']
  exact .rfl

/-- The items' share of what is dealt, claimed and opened is what a device holds for them. -/
theorem own_all : iprop(records P κ
      ∗ (bigSep Finset.univ fun x : Bool × Item => iprop(atPos ER (cell c (some (some (false, x)))) 0 ∅ 0 ∗ reached ER (cell c (some (some (false, x)))) 0))
      ∗ (bigSep Finset.univ fun x : Bool × Item => iprop(atPos ER (cell c (some (some (true, x)))) 0 ∅ 0 ∗ reached ER (cell c (some (some (true, x)))) 0))
      ∗ (bigSep Finset.univ fun x : Bool × Item => cred (tallyAt (gotCell c x.1 x.2) () (amt x.2)))
      ∗ (bigSep Finset.univ fun x : Bool × Item => dutyTok ER (cell c (some (some (false, x)))) 0 ())
      ∗ (bigSep Finset.univ fun x : Bool × Item => dutyTok ER (cell (far c) (some (some (true, x)))) 0 ()))
    ⊢ iprop(bigSepL items (own P κ c false) ∗ bigSepL items (own P κ c true)) := by
  have h (x : Bool × Item) : iprop(records P κ ∗ (iprop(atPos ER (cell c (some (some (false, x)))) 0 ∅ 0 ∗ reached ER (cell c (some (some (false, x)))) 0)
      ∗ iprop(atPos ER (cell c (some (some (true, x)))) 0 ∅ 0 ∗ reached ER (cell c (some (some (true, x)))) 0)
      ∗ cred (tallyAt (gotCell c x.1 x.2) () (amt x.2))
      ∗ dutyTok ER (cell c (some (some (false, x)))) 0 () ∗ dutyTok ER (cell (far c) (some (some (true, x)))) 0 ())) ⊢ own P κ c x.1 x.2 := by
    unfold own
    iintro ⟨#HR, ⟨Ha, Hr⟩, ⟨Ha', Hr'⟩, Hc, Ht, Ht'⟩
    isplitr; · iapply (records_inv P κ c _) $$ HR
    isplitr; · iapply (records_inv P κ c _) $$ HR
    isplitr; · iapply (records_inv P κ (far c) _) $$ HR
    isplitl [Hr]; · iexact Hr
    isplitl [Hr']; · iexact Hr'
    isplitl [Ha]; · iexact Ha
    isplitl [Ha']; · iexact Ha'
    isplitl [Hc]; · iexact Hc
    isplitl [Ht]; · iexact Ht
    iexact Ht'
  rw [← bigSep_rounds (fun x : Bool × Item => own P κ c x.1 x.2)]
  have H := bigSep_with_persistent (S := (Finset.univ : Finset (Bool × Item))) (R := records P κ) fun x _ => h x
  simp only [bigSep_sep'] at H ⊢
  exact H

/-- What a device is dealt and claims, with its own counters at zero, opens. -/
theorem opening : iprop((records P κ ∗ dealt c ∗ claims c) ∗ Pipeline.ownSems0 osem c) ⊢ (|={Set.univ}=> opened P κ c : sProp 𝕄) := by
  unfold dealt claims
  iintro ⟨⟨#HR, ⟨Hb, Ho, Ht⟩, HcB, HcE, Hc⟩, Hs⟩
  imod (open_own P κ c) $$ [Ho Hs] with HA
  · isplitr; · iexact HR
    isplitl [Ho] <;> iassumption
  ihave HA := (Entails.of_eq (bigSep_slots _)) $$ HA
  icases HA with ⟨⟨HaE, HrE⟩, HS, HG⟩
  ihave Ht := (Entails.of_eq (bigSep_option _)) $$ Ht
  icases Ht with ⟨HtB, Ht⟩
  ihave Ht := (Entails.of_eq (bigSep_slots _)) $$ Ht
  icases Ht with ⟨HtE, HtS, HtG⟩
  imodintro
  unfold opened
  isplitr; · iapply (records_inv P κ c _) $$ HR
  isplitr; · iapply (records_inv P κ c _) $$ HR
  isplitr; · iapply (records_inv P κ (far c) _) $$ HR
  isplitr; · iapply (records_inv P κ (far c) _) $$ HR
  isplitl [HrE]; · iexact HrE
  isplitr; · iapply (records_bar P κ (far c)) $$ HR
  isplitl [Hb]; · iexact Hb
  isplitl [HaE]; · iexact HaE
  isplitl [HtB]; · iexact HtB
  isplitl [HtE]; · iexact HtE
  isplitl [HcB]; · iexact HcB
  isplitl [HcE]; · iexact HcE
  iapply (own_all P κ c)
  isplitr; · iexact HR
  isplitl [HS]; · iexact HS
  isplitl [HG]; · iexact HG
  isplitl [Hc]; · iexact Hc
  isplitl [HtS]; · iexact HtS
  iexact HtG

/-- The semaphores at zero after the body are the kernel's own and the barrier's. -/
theorem own_zero : allZero (F := F) c ⊢ iprop(Pipeline.ownSems0 osem c ∗ semVal (barCell c) 0) := by
  unfold allZero zeroed
  rw [show (Pipeline.ownSems0 osem c : sProp 𝕄) = bigSep Finset.univ fun x : Option Slot => semVal (cell c (some x)) 0 from rfl,
    bigSep_slots, bigSep_rounds, bigSep_rounds]
  iintro ⟨Hb, He, ⟨HsF, HgF⟩, HsT, HgT⟩
  isplitr [Hb]
  · isplitl [He]; · iexact He
    isplitl [HsF HsT]
    · isplitl [HsF] <;> iassumption
    isplitl [HgF] <;> iassumption
  iexact Hb

/-! ### What is owed, summed -/

theorem mem_items (i : Item) : i ∈ items := List.mem_toFinset.mp (items_all ▸ Finset.mem_univ i)

theorem tally_cell (c c' : Dev nD) (x y : Option (Option Slot)) (k : ℕ) :
    (tallyAt (cell c' y) () k : CellTallies nD τ sig Unit) (cell c x) () = if c = c' ∧ x = y then k else 0 := by
  rw [tallyAt_apply]
  exact if_congr ((and_iff_left rfl).trans cell_eq) rfl rfl

theorem dues_at (d c : Dev nD) (b : Bool) (x : Option (Option Slot)) (l : List Item) (h : l.Nodup) :
    dues d b l (cell c x) () = if c = far d ∧ ∃ i ∈ l, x = some (some (true, b, i)) then amtOf x else 0 := by
  induction l with
  | nil => rw [if_neg (by simp)]; rfl
  | cons i l ih =>
    have hn := List.nodup_cons.mp h
    rw [show dues d b (i :: l) (cell c x) () = dues d b l (cell c x) () + tallyAt (gotCell (far d) b i) () (amt i) (cell c x) () from rfl,
      ih hn.2, tally_cell]
    by_cases hc : c = far d
    · by_cases hx : x = some (some (true, b, i))
      · subst hx
        rw [if_neg (fun h => by obtain ⟨-, j, hj, e⟩ := h; simp only [Option.some.injEq, Prod.mk.injEq, true_and] at e; exact hn.1 (e ▸ hj)),
          if_pos ⟨hc, rfl⟩, if_pos ⟨hc, i, List.mem_cons_self, rfl⟩, Nat.zero_add]
        rfl
      · rw [if_neg (c := c = far d ∧ x = some (some (true, b, i))) (fun h => hx h.2), Nat.add_zero]
        refine if_congr (and_congr_right fun _ => ⟨fun ⟨j, hj, e⟩ => ⟨j, List.mem_cons_of_mem _ hj, e⟩, fun ⟨j, hj, e⟩ => ?_⟩) rfl rfl
        rcases List.mem_cons.mp hj with rfl | hj
        · exact absurd e hx
        · exact ⟨j, hj, e⟩
    · rw [if_neg (fun h => hc h.1), if_neg (fun h => hc h.1), if_neg (fun h => hc h.1)]

/-- What is owed on a semaphore paid from across: all of its payment, by the device across. -/
theorem owed_cell (d c : Dev nD) (x : Option (Option Slot)) (h : payee c x = far c) :
    owed d (cell c x) () = if d = far c then amtOf x else 0 := by
  have e : (c = far d) ↔ (d = far c) := ⟨fun h => by rw [h, far_far], fun h => by rw [h, far_far]⟩
  rw [show owed d (cell c x) () = ((tallyAt (endCell (far d)) () 1 (cell c x) () + dues d true items (cell c x) ()) + dues d false items (cell c x) ())
      + tallyAt (barCell (far d)) () 1 (cell c x) () from rfl, tally_cell, tally_cell, dues_at _ _ _ _ _ items_nodup, dues_at _ _ _ _ _ items_nodup]
  simp only [e]
  by_cases hd : d = far c
  · rcases x with _ | _ | ⟨_ | _, b, i⟩
    · simp [hd, amtOf]
    · simp [hd, amtOf]
    · exact absurd h.symm (far_ne c)
    · cases b <;> simp [hd, mem_items]
  · simp [hd]

/-- So the launch's credit on such a semaphore is its payment. -/
theorem launch_credit (x : Option (Option Slot)) (h : payee c x = far c) :
    tallyOn (cell c x) (launchCredit (Pipeline.owing owed) 0 (cell c x)) = (tallyAt (cell c x) () (amtOf x) : CellTallies nD τ sig Unit) := by
  unfold tallyAt; refine congrArg _ (Finsupp.ext fun u => ?_); cases u
  rw [Pipeline.launchCredit_owing, Finsupp.single_eq_same, Finset.sum_congr rfl fun d _ => owed_cell d c x h,
    Finset.sum_ite_eq' Finset.univ (far c) fun _ => amtOf x, if_pos (Finset.mem_univ _)]

def semEmb : Option (Option Slot) ↪ SemLoc sig := ⟨semOf, semOf_inj⟩

theorem claim_of (x : Option (Option Slot)) (h : payee c x = far c) :
    (cred (tallyOn ((c : Thread nD τ), semEmb x) (launchCredit (Pipeline.owing owed) 0 ((c : Thread nD τ), semEmb x))) : sProp 𝕄)
      ⊢ cred (tallyAt (cell c x) () (amtOf x)) := Entails.of_eq (congrArg cred (launch_credit c x h))

/-- A device's launch credit holds its claims. -/
theorem launch_claims : (Pipeline.launchCred owed c : sProp 𝕄) ⊢ claims (F := F) c := by
  unfold Pipeline.launchCred claims
  refine BIBase.Entails.trans (bigSep_subset (Finset.subset_univ (Finset.univ.map semEmb))) ?_
  rw [BI.bigSep_map, bigSep_option, bigSep_slots]
  have hg : (bigSep Finset.univ fun x : Bool × Item => (cred (tallyOn ((c : Thread nD τ), semEmb (some (some (true, x))))
        (launchCredit (Pipeline.owing owed) 0 ((c : Thread nD τ), semEmb (some (some (true, x)))))) : sProp 𝕄))
      ⊢ bigSep Finset.univ fun x : Bool × Item => cred (tallyAt (gotCell c x.1 x.2) () (amt x.2)) :=
    bigSep_mono fun x _ => claim_of (F := F) c (some (some (true, x))) rfl
  iintro ⟨Hb, He, -, Hg⟩
  ihave Hb := (claim_of (F := F) c none rfl) $$ Hb
  ihave He := (claim_of (F := F) c (some none) rfl) $$ He
  ihave Hg := hg $$ Hg
  isplitl [Hb]; · iexact Hb
  isplitl [He]; · iexact He
  iexact Hg

end Cert.KernelIdeal.Rows

end
-- ==== Proof.Run.lean ====
/- The run: the region as one segment of @main, the launch that deals every device its share of the protocol, and what every
   final state holds. -/
module

public import proofs.«01_k».proof.Proof.Deal
public import Idealize.ShloMosaic.Lib.Pipeline.Frame

@[expose] public section

noncomputable section

namespace Cert.KernelIdeal.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf initOf)
open Idealize.ShloMosaic.Pipeline (Seg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ### The region as a segment -/

/-- What a device keeps for the region from the launch; -/
def kept : sProp 𝕄 := iprop(∃ κ, records (partOf m) κ ∗ dealt (F := F) c ∗ claims (F := F) c)
/-- what it has once its own semaphores are open; -/
def inside : sProp 𝕄 := iprop((∃ K, opened (partOf m) K c) ∗ levAts L lv)
/-- and what it keeps after: the barrier's semaphore at zero. -/
def left : sProp 𝕄 := semVal (barCell c) 0

theorem region_open : iprop(kept m c ∗ Pipeline.ownSems0 osem c ∗ levAts L lv) ⊢ (|={Set.univ}=> inside m c : sProp 𝕄) := by
  unfold kept inside
  iintro ⟨⟨%κ, HT⟩, Hs, Hlev⟩
  imod (opening (partOf m) κ c) $$ [HT Hs] with H
  · isplitl [HT] <;> iassumption
  imodintro
  isplitl [H]
  · iexists κ; iexact H
  iexact Hlev

/-- The buffers no window stages are the six the body uses. -/
theorem rest_scr : (Pipeline.scopedRest spec0 c : sProp 𝕄) = scr (F := F) c := (scopedRest0_eq c).trans rfl

/-- Nothing is held of no buffers. -/
theorem held_none (W : Valuation τ sig (Elt F)) : (StableHlo.held (c.tc : Thread nD τ) ∅ W : sProp 𝕄) = BI.emp := by
  unfold StableHlo.held; exact BI.bigSep_empty

theorem region_in : iprop(Pipeline.scopedRest spec0 c ∗ (∃ r, prngReg c r) ∗ StableHlo.held (c.tc : Thread nD τ) ∅ (V4 m c) ∗ inside m c)
    ⊢ (dat m c).Φ 0 := by
  rw [show (dat m c).Φ 0 = Φ₀ m c from rfl, rest_scr]
  unfold Φ₀ inside
  iintro ⟨Hs, Hp, -, HK, Hlev⟩
  isplitl [HK]; · iexact HK
  isplitl [Hlev]; · iexact Hlev
  isplitl [Hs] <;> iassumption

theorem region_out : (dat m c).Φ (Fin.last cfg0.N)
    ⊢ iprop(Pipeline.scopedRest spec0 c ∗ (∃ r, prngReg c r) ∗ StableHlo.held (c.tc : Thread nD τ) ∅ (V5 m (outs m) c)
      ∗ Pipeline.ownSems0 osem c ∗ left (F := F) c) := by
  rw [show (dat m c).Φ (Fin.last cfg0.N) = Φ₁ (F := F) c from rfl, rest_scr, held_none]
  unfold Φ₁ left
  iintro ⟨Hz, Hs, Hp⟩
  ihave Hz := (own_zero (F := F) c) $$ Hz
  isplitl [Hs]; · iexact Hs
  isplitl [Hp]; · iexact Hp
  isplitr; · iempintro
  iexact Hz

/-- Every DMA semaphore is some kernel's. -/
theorem dma_scoped : ∀ s : DmaSem sig, (SemLoc.dma s : SemLoc sig).isScoped .tc = true := by decide +kernel

/-- The kernel's own semaphores are its own. -/
theorem own_facts : Pipeline.OwnSemFacts spec0 osem where
  isScoped k := by
    cases k with
    | none => rfl
    | some x => exact dma_scoped (dmaOf x)
  inj := osem_inj
  disj k w s h := by
    have e := (nameOf_semOf (some k)).symm.trans (congrArg nameOf h)
    fin_cases w <;> fin_cases s <;> exact absurd e (by simp [nameOf])

/-- What is owed at either end of the region is above the staging semaphores. -/
theorem region_owed (t : Fin (cfg0.N + 1)) : Above 0 ((dat m c).owed t) := by
  rw [show (dat m c).owed t = if t.val = 0 then owed c else 0 from rfl]
  split
  · exact above_add (above_add (above_add (above_tally (far c) (some none) 1 (by decide)) (above_dues c true (by decide) items))
      (above_dues c false (by decide) items)) (above_tally (far c) none 1 (by decide))
  · exact above_zero 0

theorem lv_stage (w : Fin 3) (s : Fin (spec0 w).nbuf) (u : Unit) : lv ((c : Thread nD τ), .dma ((spec0 w).sem s)) u ≤ 0 := by
  fin_cases w <;> fin_cases s <;> exact Nat.le_refl 0

/-- The arrays the windows read and write, and the other buffers that last. -/
abbrev arrs : Finset (DevRef τ sig) := Pipeline.arrRefs (τ := τ) spec0
abbrev others : Finset (DevRef τ sig) := Pipeline.ucRefs τ sig \ arrs

theorem arrs_sub : arrs ⊆ Pipeline.ucRefs τ sig := Pipeline.arrRefs_sub_ucRefs spec0 fun w => by fin_cases w <;> rfl

theorem others_same (b : DevRef τ sig) (h : b ∈ others \ ∅) : V5 m (outs m) c b = V4 m c b := by
  refine Function.update_of_ne (fun e => ?_) _ _
  rw [Finset.sdiff_empty, Finset.mem_sdiff] at h
  refine h.2 (e ▸ ?_)
  exact Finset.mem_map.mpr ⟨Pipeline.arrRef spec0 2, Finset.mem_image_of_mem _ (Finset.mem_univ 2), rfl⟩

set_option backward.isDefEq.respectTransparency.types false in
/-- The region. -/
def region : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) launch0.toP rfl (fun c => (body_obligation m c).loose)
    (fun _ => 0) owed (fun c => (owed_first m c).trans (zero_add _).symm) (owed_last m) (fun _ => rfl) (fun _ _ => ite_self _)
    (V4 m) (V5 m (outs m)) (others_same m)
    (kept m) (left (F := F)) (inside m) (left (F := F)) (region_open m) (region_in m) (region_out m)
    (fun c => by iintro H; imodintro; iexact H)
    (fun _ => 0)
    ⟨fun c w s => by rw [L_tc]; exact Finset.mem_singleton_self _, fun c w s => lv_stage c w s (), fun c t g i h => region_owed m c t g i h⟩
    (fun _ => iprop(emp))
    (fun c w => by fin_cases w <;> rfl) (arr_after m)

/-- What rides beside the buffers: before the region; after it. -/
def E : Fin 2 → Dev nD → sProp 𝕄
  | 0, c => iprop(kept m c ∗ (∃ r, prngReg c r) ∗ ∃ W, owes (c : Thread nD τ) (owed c) W)
  | 1, c => iprop(left (F := F) c ∗ ∃ W, owes (c : Thread nD τ) (0 : CellTallies nD τ sig Unit) W)

theorem region_pre : iprop(StableHlo.held (c : Thread nD τ) (Pipeline.ucRefs τ sig) (V4 m c) ∗ E m 0 c) ⊢ (region m).pre c := by
  show _ ⊢ iprop(StableHlo.held (c.tc : Thread nD τ) arrs (V4 m c) ∗ (∃ r, prngReg c r)
    ∗ (StableHlo.held (c.tc : Thread nD τ) others (V4 m c) ∗ emp) ∗ kept m c ∗ ∃ Wd, owes (c : Thread nD τ) (0 + owed c) Wd)
  rw [zero_add, StableHlo.held_sub_split (c.tc : Thread nD τ) arrs_sub (V4 m c)]
  unfold E
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem region_post : (region m).post c ⊢ iprop(StableHlo.held (c : Thread nD τ) (Pipeline.ucRefs τ sig) (V5 m (outs m) c) ∗ E m 1 c) := by
  show iprop(StableHlo.held (c.tc : Thread nD τ) arrs (V5 m (outs m) c) ∗ (∃ r, prngReg c r)
    ∗ (StableHlo.held (c.tc : Thread nD τ) others (V5 m (outs m) c) ∗ emp) ∗ left (F := F) c
    ∗ ∃ Wd, owes (c : Thread nD τ) (0 : CellTallies nD τ sig Unit) Wd) ⊢ _
  rw [StableHlo.held_sub_split (c.tc : Thread nD τ) arrs_sub (V5 m (outs m) c)]
  unfold E
  iintro ⟨Ha, -, ⟨Hr, -⟩, Hb, HO⟩
  isplitl [Ha Hr]
  · isplitl [Ha] <;> iassumption
  isplitl [Hb] <;> iassumption

/-! ### The launch -/

/-- Only the barrier's semaphore lasts. -/
theorem lasting : ∀ sm : SemLoc sig, sm.isScoped .tc = false → sm = .reg barrier0 := by
  rintro (s | s) h
  · revert s; decide
  · exact absurd ((dma_scoped s).symm.trans h) (by decide)

theorem lasting_zero : (unscopedSems0 c : sProp 𝕄) = semVal (barCell c) 0 := by
  unfold unscopedSems0
  rw [show (Finset.univ.filter fun sm : SemLoc sig => ¬ sm.isScoped .tc) = {.reg barrier0} from Finset.ext fun sm => by
    rw [Finset.mem_filter, Finset.mem_singleton]
    exact ⟨fun h => lasting sm (Bool.not_eq_true _ ▸ h.2), fun h => ⟨Finset.mem_univ _, by rw [h]; decide⟩⟩, bigSep_singleton]
  rfl

/-- The launch's tokens: the pipeline's, and the exchange's. -/
def u₀ : UU := (initOf (Pipeline.cells cfgs cellOf_inj) (Pipeline.launchToks cfgs cellOf_inj), launchOf barCells ownCells payToks)

/-- A resource kept by device `c₀` alone. -/
def onDev (c₀ : Dev nD) (X : sProp 𝕄) (c : Dev nD) : sProp 𝕄 := if c = c₀ then X else iprop(emp)
theorem onDev_all (c₀ : Dev nD) (X : sProp 𝕄) : bigSep Finset.univ (onDev c₀ X) = X := by
  have hne : bigSep (Finset.univ.erase c₀) (onDev c₀ X) = BI.emp := by
    refine Eq.trans (bigSep_congr (Ψ := fun _ => (BI.emp : sProp 𝕄)) fun c hc => ?_) (BI.bigSep_emp_const _)
    exact if_neg (Finset.ne_of_mem_erase hc)
  rw [bigSep_univ_at _ c₀, hne, show onDev c₀ X c₀ = X from if_pos rfl]
  exact BI.equiv_iff.mp sep_emp

/-- The exchange's tokens, on device 0 until all devices' launches are at hand. -/
def G : Dev nD → sProp 𝕄 := onDev 0 (BI.own (ER (launchOf barCells ownCells payToks)))

/-- What a device has at launch that needs no dealing. -/
def brought : sProp 𝕄 :=
  iprop(StableHlo.held (c : Thread nD τ) (Pipeline.ucRefs τ sig) (V0 m c) ∗ claims (F := F) c ∗ (∃ r, prngReg c r)
    ∗ ∃ W, owes (c : Thread nD τ) (owed c) W)

theorem first_state (κ : GSem nD τ sig → ℕ) : iprop(records (partOf m) κ ∗ (dealt (F := F) c ∗ brought m c))
    ⊢ iprop(StableHlo.held (c : Thread nD τ) (Pipeline.ucRefs τ sig) (V0 m c) ∗ E m 0 c) := by
  unfold brought E kept
  iintro ⟨HR, Hd, Hh, Hc, Hp, HO⟩
  isplitl [Hh]; · iexact Hh
  isplitl [HR Hd Hc]
  · iexists κ
    isplitl [HR]; · iexact HR
    isplitl [Hd] <;> iassumption
  isplitl [Hp] <;> iassumption

/-- One device's launch, sorted. -/
theorem launch_sorted : iprop(unscopedBufs c (fun b => m ((c.tc : Thread nD τ).loc b)) ∗ unscopedSems0 c
      ∗ owes (c.tc : Thread nD τ) (owed c) ∅ ∗ Pipeline.launchCred owed c ∗ prngReg c (ρ c) ∗ G (F := F) c)
    ⊢ iprop(brought m c ∗ (semVal (barCell c) 0 ∗ G (F := F) c)) := by
  rw [show (unscopedBufs c (fun b => m ((c.tc : Thread nD τ).loc b)) : sProp 𝕄) = StableHlo.held (c : Thread nD τ) (Pipeline.ucRefs τ sig) (V0 m c) from
    Pipeline.unscopedBufs_held c (V0 m c), lasting_zero]
  unfold brought
  iintro ⟨Hh, Hs, HO, Hcr, Hp, HG⟩
  ihave Hc := (launch_claims (F := F) c) $$ Hcr
  isplitr [Hs HG]
  · isplitl [Hh]; · iexact Hh
    isplitl [Hc]; · iexact Hc
    isplitl [Hp]
    · iexists (ρ c); iexact Hp
    iexists ∅; iexact HO
  isplitl [Hs] <;> iassumption

/-- What the launch funds, dealt out. -/
theorem deal_out : iprop((bigSep barCells fun g => (atPos ER g 0 ∅ 0 : sProp 𝕄)) ∗ (bigSep ownCells fun g => openTok ER g)
      ∗ bigSep payToks fun t => dutyTok ER t.1 t.2.1 t.2.2)
    ⊢ bigSep Finset.univ fun c : Dev nD => dealt (F := F) c := by
  unfold dealt
  rw [bigSep_sep', bigSep_sep', toks_dealt, BI.bigSep_map, BI.bigSep_map, bigSep_univ_prod]
  exact .rfl

/-- The launch's step: every device's first state, from all the launches at once. -/
theorem launch_all : iprop((bigSep Finset.univ fun c : Dev nD => iprop(unscopedBufs c (fun b => m ((c.tc : Thread nD τ).loc b)) ∗ unscopedSems0 c
        ∗ owes (c.tc : Thread nD τ) (owed c) ∅ ∗ Pipeline.launchCred owed c ∗ prngReg c (ρ c) ∗ G (F := F) c)) ∗ levAts L lv)
    ⊢ (|={Set.univ}=> bigSep Finset.univ fun c : Dev nD =>
        iprop(StableHlo.held (c : Thread nD τ) (Pipeline.ucRefs τ sig) (V0 m c) ∗ E m 0 c) : sProp 𝕄) := by
  have hs : (bigSep Finset.univ fun c : Dev nD => iprop(unscopedBufs c (fun b => m ((c.tc : Thread nD τ).loc b)) ∗ unscopedSems0 c
        ∗ owes (c.tc : Thread nD τ) (owed c) ∅ ∗ Pipeline.launchCred owed c ∗ prngReg c (ρ c) ∗ G (F := F) c) : sProp 𝕄)
      ⊢ iprop((bigSep Finset.univ fun c : Dev nD => brought m c) ∗ (bigSep barCells fun g => semVal g 0)
        ∗ BI.own (ER (launchOf barCells ownCells payToks))) := by
    refine BIBase.Entails.trans (bigSep_mono fun c _ => launch_sorted m ρ c) ?_
    rw [bigSep_sep', bigSep_sep', show bigSep Finset.univ (fun c : Dev nD => G (F := F) c) = _ from onDev_all 0 _, BI.bigSep_map]
    exact .rfl
  iintro ⟨H, -⟩
  ihave H := hs $$ H
  icases H with ⟨HB, Hv, Hu⟩
  imod (Rounds.fund_launch ER (rd (partOf m)) cells_disjoint (fun g _ h => h) payToks) $$ [Hv Hu] with ⟨%κ, -, #Hinv, #Hr, Hat, Hopen, Htok⟩
  · isplitl [Hv] <;> iassumption
  imodintro
  ihave Hd := (deal_out (F := F)) $$ [Hat Hopen Htok]
  · isplitl [Hat]; · iexact Hat
    isplitl [Hopen] <;> iassumption
  have H := bigSep_with_persistent (S := (Finset.univ : Finset (Dev nD))) (R := records (partOf m) κ) fun c _ => first_state m c κ
  rw [bigSep_sep'] at H
  iapply H
  isplitr
  · unfold records
    isplitr; · iexact Hinv
    iexact Hr
  isplitl [Hd] <;> iassumption

/-! ### The run -/

/-- A buffer that lasts is among those held at the end. -/
theorem lasts (r : Ref sig .tc) (h : (Proc.devRef (τ := τ) .tc r) ∈ Pipeline.ucRefs τ sig) (s : Phys nD τ sig (Elt F))
    (hr : ∀ b ∈ Pipeline.ucRefs τ sig, s.mem.mem ((c : Thread nD τ).1, b) = V5 m (outs m) c b) :
    s.mem.mem ((c : Thread nD τ).loc r) = V5 m (outs m) c r := hr _ h

set_option backward.isDefEq.respectTransparency.types false in
/-- From any memory with all counters at zero, every run of @main on the mesh ends with each device's result computed from what
    it and the device across looked up, its arguments as they were, and every counter at zero. -/
theorem run_main : θ_run defs (onTc (τ := τ) (main (F := F))) ⟨m, fun _ => 0, ρ⟩ (fun r =>
    (∀ c : Dev nD, r.2.mem ((c : Thread nD τ).loc main_v17) = outOf m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (region m))
    (fun c Q => by
      rewrite [main_chain c, Seg.run_eq_chain,
        show (segs m 𝒱₀ L lv (E m) () (pdats m) (region m) c).map Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [segs, Seg.pipes_host, Seg.pipes_region, Seg.pipes_nil]; decide) owed L_of_ne (G (F := F)) u₀
    (hu₀ := ?_)
    (T₀ := fun c => iprop(StableHlo.held (c : Thread nD τ) (Pipeline.ucRefs τ sig) (V0 m c) ∗ E m 0 c))
    (Tₙ := fun c => iprop(StableHlo.held (c : Thread nD τ) (Pipeline.ucRefs τ sig) (V5 m (outs m) c) ∗ left (F := F) c))
    (hch := fun c => ⟨.rfl, .rfl, .rfl, .rfl, region_pre m c, (region_post m c).trans ?_⟩)
    (hinit := launch_all m ρ)
    (QY := fun c s => (s.mem ((c : Thread nD τ).loc main_v17) = outOf m c
      ∧ s.mem ((c : Thread nD τ).loc main_arg0) = m ((c : Thread nD τ).loc main_arg0)
      ∧ s.mem ((c : Thread nD τ).loc main_arg1) = m ((c : Thread nD τ).loc main_arg1)) ∧ s.sem (barCell c) = 0)
    (hfin := fun c s' => ?_)
    (hQ := fun s h hs => ⟨fun c => (h c).1, sem_eq_zero hs fun c sm hsm => by
        obtain rfl := lasting sm hsm
        exact (h c).2⟩)
  · unfold u₀ G
    iintro Hu
    ihave H := (ownU_pair _ _) $$ Hu
    icases H with ⟨HP, HX⟩
    imodintro
    isplitl [HP]; · iexact HP
    rw [onDev_all]; iexact HX
  · unfold E
    iintro ⟨Hh, Hb, HO⟩
    isplitr [HO]
    · isplitl [Hh] <;> iassumption
    iexact HO
  · unfold StableHlo.held left
    iintro ⟨⟨Hh, Hb⟩, HSI⟩
    icombine HSI Hb gives %hb
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have at' (r : Ref sig .tc) (hr : Proc.devRef (τ := τ) .tc r ∈ Pipeline.ucRefs τ sig) := h _ hr
      refine ⟨⟨(at' main_v17 (Finset.mem_filter.mpr ⟨StableHlo.devRef_mem_tcRefs main_v17, by decide⟩)).trans ?_,
        (at' main_arg0 (Finset.mem_filter.mpr ⟨StableHlo.devRef_mem_tcRefs main_arg0, by decide⟩)).trans (V5_main_arg0 m (outs m) c),
        (at' main_arg1 (Finset.mem_filter.mpr ⟨StableHlo.devRef_mem_tcRefs main_arg1, by decide⟩)).trans (V5_main_arg1 m (outs m) c)⟩, by simpa using hb⟩
      exact (Function.update_self (Proc.devRef (τ := τ) .tc main_v17) (outs m 5 main_v17 c) (V4 m c)).trans (outs_result m c)
    iexact HSI

end Cert.KernelIdeal.Rows

end
-- ==== Proof.Value.lean ====
/- What the kernel computes: every device ends with the rows of the whole table that its ids name, widened. -/
module

public import proofs.«01_k».proof.Proof.Point
public import Idealize.ShloMosaic.Lib.Routing.Ops
public import Idealize.ShloMosaic.Lib.ReduceAll
public import Idealize.ShloMosaic.Lib.Layout
public import Idealize.ShloMosaic.Lib.DynamicIndex
public import Idealize.ShloMosaic.Lib.WordCmp
public import Idealize.ShloMosaic.Lib.IdealHost

@[expose] public section

noncomputable section

namespace Cert.KernelIdeal.Rows

open Idealize.ShloMosaic Idealize.ShloMosaic.TcCoe Idealize.ShloMosaic.ValueIdx
open Idealize.ShloMosaic.WordCmp (cmpi_slt_eq cmpi_sle_eq cmpi_sge_eq)
open Cert.KernelIdeal Cert.KernelIdeal.Gen

variable {F : FTy → Type} [FloatOps F]

/-! ### The select at the end -/

/-- A column widened to the rows reads its entry of the row. -/
theorem column_at {α : Type} (x : S512x1.Idx → α) (r y : Fin 512) :
    broadcastTo S512x512 x broadcasts_S512x1_S512x512 (ix2 r y) = x (ix2 r 0) :=
  broadcastTo_apply x _ _ _ fun a => by fin_cases a <;> rfl

/-- Choosing by a negated condition what the condition already chose changes nothing, -/
theorem choose_again {α : Type} (b g : BitVec 1) (x y : α) :
    Scalar.select (IntOp.andi b (IntOp.xori g 1#1)) y (Scalar.select g x y) = Scalar.select g x y := by
  unfold Scalar.select IntOp.andi IntOp.xori
  by_cases hg : g = 1
  · subst hg; rw [if_neg (by revert b; decide)]
  · rw [if_neg hg, ite_self]

/-- nor does choosing between a thing and itself. -/
theorem choose_same {α : Type} (b : BitVec 1) (x : α) : Scalar.select b x x = x := ite_self x

/-- Whatever the checksums say, the result's row is the row looked up here where the mask is positive, and the one looked
    up across elsewhere. -/
theorem outRaw_at (mk : Vec F S512x1 .i32) (p q : Vec F S512x512 .bf16) (r y : Fin 512) :
    outRaw mk p q (ix2 r y) = Scalar.select (IntOp.cmpi .sgt (mk (ix2 r 0)) 0#32)
      (FloatOps.extf .f32 bitsLt_bf16_f32 (p (ix2 r y))) (FloatOps.extf .f32 bitsLt_bf16_f32 (q (ix2 r y))) := by
  unfold outRaw
  generalize k0_pay9 (F := F) _ _ _ _ = ba
  generalize k0_pay12 (F := F) _ _ _ _ = bb
  unfold k0_pay1 k0_pay14 k0_pay10 k0_pay11 k0_pay13
  simp only [shapeCast_self, select, column_at, andi, xori, constantI, cmpi, extf, broadcast, choose_same, choose_again]

/-! ### The lookup -/

/-- A scalar spread over the ids. -/
abbrev spread (x : IVec S_ 32) : IVec S512 32 := broadcastInDim S512 ![] bcast_S_S512 x

/-- The first row of device `c`'s half, as its words compute it. -/
def baseWord (c : Dev nD) : IVec S_ 32 :=
  muli (Host.remui (Host.divui (constantI S_ 32 (Dev.word c)) (constantI S_ 32 16#32)) (constantI S_ 32 2#32)) (constantI S_ 32 4096#32)
/-- The ids counted from there, -/
def localIds (c : Dev nD) (ids : IVec S512 32) : IVec S512 32 := subi ids (spread (baseWord c))
/-- which of them lie in the half, -/
def ownedOf (w : IVec S512 32) : IVec S512 1 :=
  andi (cmpi .sge w (spread (constantI S_ 32 0#32))) (cmpi .slt w (spread (constantI S_ 32 4096#32)))
/-- the ids with the others put at row 0, -/
def safeOf (o : IVec S512 1) (w : IVec S512 32) : IVec S512 32 := select o w (spread (constantI S_ 32 0#32))
/-- as a column, negative ones counted from the end, -/
def columnOf (w : IVec S512 32) : IVec S512x1 32 :=
  broadcastInDim S512x1 ![0] bcast_S512_S512x1_0
    (select (cmpi .slt w (spread (constantI S_ 32 0#32))) (addi w (spread (constantI S_ 32 4096#32))) w)
/-- which of these are rows of the half at all, -/
def insideOf (k : IVec S512x1 32) : IVec S512x1 1 :=
  andi (cmpi .sge k (broadcastInDim S512x1 ![] bcast_S_S512x1 (constantI S_ 32 0#32)))
    (cmpi .sle k (broadcastInDim S512x1 ![0, 1] bcast_S1x1_S512x1_0_1 (broadcastInDim S1x1 ![1] bcast_S1_S1x1_1 (constantI S1 32 4095#32))))
/-- and the rows looked up, a row not in the half all not-a-number. -/
def lookup (t : FVec F S4096x512 .bf16) (w : IVec S512 32) : FVec F S512x512 .bf16 :=
  select (broadcastInDim S512x512 ![0] bcast_S512_S512x512_0
      (Host.reduce IntOp.andi (insideOf (columnOf w)) (constantI S_ 1 1#1) reducesTo_S512x1_S512_d1 h_S_))
    (Host.gather gather_S4096x512_S512x1_S512x512_1_0_n_n_0_1_1512 t (columnOf w))
    (broadcastInDim S512x512 ![] bcast_S_S512x512 (constant S_ .bf16 0x7FC0#16))
/-- The mask handed to the kernel. -/
def maskWord (o : IVec S512 1) : IVec S512x1 32 := broadcastInDim S512x1 ![0] bcast_S512_S512x1_0 (extui 32 o natLt_1_32)

section Reads

variable (m : (ℓ : Loc nD τ sig) → Buf (Elt F) ℓ) (c : Dev nD)

/-- After the first stretch of the host's operations: the ids counted from the half's first row, -/
theorem after_local : V1 m c main_v7 = localIds c (m ((c : Thread nD τ).loc main_arg0)) := by
  unfold V1; after_results <;> rfl
/-- which of them lie in the half, -/
theorem after_owned : V1 m c main_v12 = ownedOf (localIds c (m ((c : Thread nD τ).loc main_arg0))) := by
  unfold V1; after_results <;> rfl
/-- and the zero the others are put at. -/
theorem after_zero : V1 m c main_c_4 = constantI S_ 32 0#32 := by
  unfold V1; after_results <;> rfl

/-- After the second: the ids with the others put there. -/
theorem after_safe : V2 m c main_v13 = select (V1 m c main_v12) (V1 m c main_v7) (spread (V1 m c main_c_4)) := by
  unfold V2; generalize V1 m c = V; after_results <;> rfl
/-- After the third: the rows looked up. -/
theorem after_part : V3 m c main_v14 = lookup (V2 m c main_arg1) (V2 m c main_v13) := by
  unfold V3; generalize V2 m c = V; after_results <;> rfl
/-- After the last: the mask. -/
theorem after_mask : V4 m c main_v16 = maskWord (V3 m c main_v12) := by
  unfold V4; generalize V3 m c = V; after_results <;> rfl

/-- The rows device `c` looks up, of its table and the ids; -/
theorem partOf_eq : partOf m c = lookup (m ((c : Thread nD τ).loc main_arg1))
    (safeOf (ownedOf (localIds c (m ((c : Thread nD τ).loc main_arg0)))) (localIds c (m ((c : Thread nD τ).loc main_arg0)))) := by
  unfold partOf
  rw [V4_of m c main_v14 (by decide), after_part, after_safe, after_owned, after_local, after_zero,
    V2_of m c main_arg1 (by decide), V1_of m c main_arg1 (by decide)]
  rfl
/-- and which of them it holds. -/
theorem maskOf_eq : maskOf m c = maskWord (ownedOf (localIds c (m ((c : Thread nD τ).loc main_arg0)))) := by
  unfold maskOf
  rw [after_mask, V3_of m c main_v12 (by decide), V2_of m c main_v12 (by decide), after_owned]

end Reads

/-! ### The words as numbers -/

/-- A scalar spread over the ids is the scalar. -/
theorem spread_at (x : IVec S_ 32) (i : S512.Idx) : spread x i = x ix0 := broadcastInDim_scalar_apply _ x i

/-- A column of the ids' values reads the id's. -/
theorem col_at {α : Type} (x : S512.Idx → α) (r : Fin 512) :
    broadcastInDim S512x1 ![0] bcast_S512_S512x1_0 x (ix2 r 0) = x (ix1 r) :=
  broadcastInDim_apply _ _ _ _ _ fun a => by fin_cases a; rfl

/-- Device `c`'s half begins at row 0 or 4096. -/
theorem base_val (c : Dev nD) : baseWord c ix0 = BitVec.ofNat 32 (4096 * (c.val / 16)) := by
  revert c; decide +kernel

/-- There are two halves. -/
theorem half_lt (c : Dev nD) : c.val / 16 < 2 := by have : c.val < 32 := c.isLt; omega

/-- The device across holds the other half. -/
theorem half_far (c : Dev nD) : (far c).val / 16 = 1 - c.val / 16 := by
  revert c; decide +kernel

/-- An id below 8192 counted from the first row of a half. -/
theorem sub_toInt {n x : ℕ} (hn : n < 8192) (hx : x < 2) :
    (BitVec.ofNat 32 n - BitVec.ofNat 32 (4096 * x)).toInt = (n : ℤ) - 4096 * x := by
  rw [BitVec.toInt_sub, toInt_ofNat_of_lt (by omega), toInt_ofNat_of_lt (by omega)]
  rw [Int.bmod_eq_of_le (by norm_num; omega) (by norm_num; omega)]
  push_cast; rfl

variable {ids : IVec S512 32} {n : Fin 512 → ℕ}

/-- An id's number counted from the first row of device `c`'s half. -/
theorem localIds_toInt (c : Dev nD) (r : Fin 512) (h : ids (ix1 r) = BitVec.ofNat 32 (n r)) (hn : n r < 8192) :
    (localIds c ids (ix1 r)).toInt = (n r : ℤ) - 4096 * (c.val / 16 : ℕ) := by
  unfold localIds subi IntOp.subi
  rw [spread_at, base_val, h, sub_toInt hn (half_lt c)]

/-- An id is in the half exactly when its number divided by 4096 is the half's. -/
theorem owned_at (c : Dev nD) (r : Fin 512) (h : ids (ix1 r) = BitVec.ofNat 32 (n r)) (hn : n r < 8192) :
    ownedOf (localIds c ids) (ix1 r) = if n r / 4096 = c.val / 16 then 1#1 else 0#1 := by
  have hx := half_lt c
  have hz : (constantI S_ 32 0#32 ix0).toInt = 0 := rfl
  have hk : (constantI S_ 32 4096#32 ix0).toInt = 4096 := rfl
  unfold ownedOf andi cmpi IntOp.andi
  rw [cmpi_sge_eq, cmpi_slt_eq, spread_at, spread_at, localIds_toInt c r h hn, hz, hk]
  by_cases e : n r / 4096 = c.val / 16
  · rw [if_pos e, decide_eq_true (by omega), decide_eq_true (by omega)]; rfl
  · rw [if_neg e]
    by_cases e0 : n r / 4096 < c.val / 16
    · rw [decide_eq_false (by omega)]; exact BitVec.zero_and
    · rw [decide_eq_false (p := _ < (4096 : ℤ)) (by omega)]; exact BitVec.and_zero

/-- The row of the half looked up for an id. -/
def rowOf (c : Dev nD) (k : ℕ) : ℕ := if k / 4096 = c.val / 16 then k % 4096 else 0
/-- It is a row of the half. -/
theorem rowOf_lt (c : Dev nD) (k : ℕ) : rowOf c k < 4096 := by unfold rowOf; split_ifs <;> omega

/-- The word looked up for an id is that row's. -/
theorem safe_at (c : Dev nD) (r : Fin 512) (h : ids (ix1 r) = BitVec.ofNat 32 (n r)) (hn : n r < 8192) :
    safeOf (ownedOf (localIds c ids)) (localIds c ids) (ix1 r) = BitVec.ofNat 32 (rowOf c (n r)) := by
  have hx := half_lt c
  unfold safeOf select Scalar.select rowOf
  rw [owned_at c r h hn, spread_at]
  by_cases e : n r / 4096 = c.val / 16
  · rw [if_pos e, if_pos (show 1#1 = (1 : BitVec 1) from rfl), if_pos e]
    apply BitVec.eq_of_toInt_eq
    rw [localIds_toInt c r h hn, toInt_ofNat_of_lt (by omega)]; omega
  · rw [if_neg e, if_neg (by decide), if_neg e]; rfl

variable {w : IVec S512 32} {k : Fin 512 → Fin 4096}

/-- A word that names a row of the half stands in the column as it is, -/
theorem column_row (r : Fin 512) (h : w (ix1 r) = BitVec.ofNat 32 (k r).val) : columnOf w (ix2 r 0) = BitVec.ofNat 32 (k r).val := by
  have := (k r).isLt
  unfold columnOf
  rw [col_at]
  unfold select Scalar.select cmpi
  rw [cmpi_slt_eq, spread_at, h, toInt_ofNat_of_lt (by omega)]
  rw [decide_eq_false (by rw [show (constantI S_ 32 0#32 ix0).toInt = 0 from rfl]; omega), if_neg (by decide)]

/-- and passes the test on rows of the half. -/
theorem inside_at (h : ∀ r, w (ix1 r) = BitVec.ofNat 32 (k r).val) (i : S512x1.Idx) : insideOf (columnOf w) i = 1#1 := by
  obtain ⟨r, rfl⟩ : ∃ r : Fin 512, i = ix2 r 0 := ⟨i 0, (eq_ix2 i).trans (congrArg (ix2 (i 0)) (Subsingleton.elim (α := Fin 1) _ _))⟩
  have := (k r).isLt
  unfold insideOf andi cmpi IntOp.andi
  rw [cmpi_sge_eq, cmpi_sle_eq, column_row r (h r), toInt_ofNat_of_lt (by omega)]
  rw [decide_eq_true (by show (0 : ℤ) ≤ _; omega), decide_eq_true (by show _ ≤ (4095 : ℤ); omega)]; rfl

/-- Every word naming a row of the half, the rows looked up are those. -/
theorem lookup_at (t : FVec F S4096x512 .bf16) (h : ∀ r, w (ix1 r) = BitVec.ofNat 32 (k r).val) (r y : Fin 512) :
    lookup t w (ix2 r y) = t (ix2 (k r) y) := by
  unfold lookup select Scalar.select
  rw [if_pos]
  · exact Routing.gather_row gather_S4096x512_S512x1_S512x512_1_0_n_n_0_1_1512 rfl rfl rfl rfl rfl t _ r y (k r)
      (column_row r (h r)) (by norm_num)
  · exact Host.reduce_andi_one _ _ _ _ _ rfl (inside_at h)

/-- The mask's word at an id. -/
theorem maskWord_at (o : IVec S512 1) (r : Fin 512) : IntOp.cmpi .sgt (maskWord o (ix2 r 0)) 0#32 = o (ix1 r) := by
  unfold maskWord; rw [col_at]; unfold extui
  generalize o (ix1 r) = b; revert b; decide

/-! ### The result -/

section Result

variable (m : (ℓ : Loc nD τ sig) → Buf (Elt F) ℓ) (whole : FVec F ⟨2, ![8192, 512]⟩ .bf16)

/-- Where a device's half of the table lies in the whole. -/
theorem block_row (c : Dev nD) (j : Fin 4096) (y : Fin 512) (i : Fin 8192) (hi : i.val = 4096 * (c.val / 16) + j.val) :
    (Layout.blockN ⟨2, ![4096, 512]⟩ ⟨2, ![8192, 512]⟩ (Layout.meshBlock [2, 4, 4] ![[0], []] c) whole : S4096x512.Idx → F .bf16) (ix2 j y) = whole (ix2 i y) := by
  have hb : Layout.meshLin [2, 4, 4] c.val [0] = c.val / 16 := by clear hi; revert c; decide +kernel
  rw [Layout.blockN_apply]
  refine congrArg whole (funext fun a => Fin.ext ?_)
  rw [Layout.TilesN.idx_val]
  fin_cases a
  · show Layout.meshLin [2, 4, 4] c.val [0] * 4096 + j.val = i.val
    rw [hb, hi]; omega
  · show Layout.meshLin [2, 4, 4] c.val [] * 512 + y.val = y.val
    simp [Layout.meshLin]

variable (hids : ∀ c : Dev nD, m ((c : Thread nD τ).loc main_arg0) = ids) (hn : ∀ r, ids (ix1 r) = BitVec.ofNat 32 (n r)) (hlt : ∀ r, n r < 8192)
  (htab : ∀ c : Dev nD, m ((c : Thread nD τ).loc main_arg1)
    = Layout.blockN ⟨2, ![4096, 512]⟩ ⟨2, ![8192, 512]⟩ (Layout.meshBlock [2, 4, 4] ![[0], []] c) whole)
include hids hn hlt htab

/-- The rows a device looks up for the ids in its half are the whole table's. -/
theorem partOf_at (c : Dev nD) (r y : Fin 512) (e : n r / 4096 = c.val / 16) :
    partOf m c (ix2 r y) = whole (ix2 ⟨n r, hlt r⟩ y) := by
  rw [partOf_eq, hids, htab, lookup_at (k := fun r => ⟨rowOf c (n r), rowOf_lt c (n r)⟩) _ fun r => safe_at c r (hn r) (hlt r)]
  refine block_row whole c _ y _ ?_
  show n r = 4096 * (c.val / 16) + rowOf c (n r)
  unfold rowOf; rw [if_pos e]; omega

/-- Every device ends with the whole table's rows that the ids name, widened. -/
theorem outOf_at (c : Dev nD) (r y : Fin 512) :
    outOf m c (ix2 r y) = FloatOps.extf .f32 bitsLt_bf16_f32 (whole (ix2 ⟨n r, hlt r⟩ y)) := by
  have hx := half_lt c
  have hr := hlt r
  unfold outOf
  rw [outRaw_at, maskOf_eq, maskWord_at, hids, owned_at c r (hn r) hr]
  unfold Scalar.select
  by_cases e : n r / 4096 = c.val / 16
  · rw [if_pos e, if_pos (show 1#1 = (1 : BitVec 1) from rfl), partOf_at m whole hids hn hlt htab c r y e]
  · rw [if_neg e, if_neg (by decide), partOf_at m whole hids hn hlt htab (far c) r y (by rw [half_far]; omega)]

end Result

end Cert.KernelIdeal.Rows

end
-- ==== Proof.Reference.lean ====
/- What the reference computes, and what the precondition says of the ids: the rows of the table they name, widened. -/
module

public import proofs.«01_k».proof.Defs
public import proofs.«01_k».proof.Proof.Gen.ReferenceIdeal.Run
public import Idealize.ShloMosaic.Lib.Routing.Ops
public import Idealize.ShloMosaic.Lib.DynamicIndex
public import Idealize.ShloMosaic.Lib.WordCmp
public import Idealize.ShloMosaic.Lib.IdealHost

@[expose] public section

noncomputable section

namespace Cert.ReferenceIdeal.Rows

open Idealize.ShloMosaic Idealize.ShloMosaic.TcCoe Idealize.ShloMosaic.ValueIdx
open Idealize.ShloMosaic.WordCmp (cmpi_slt_eq cmpi_sge_eq)
open Cert.ReferenceIdeal Cert.ReferenceIdeal.Gen

variable {F : FTy → Type} [FloatOps F]

/-- The reference's result, of the ids and the table. -/
def outRef (ids : IVec S512 32) (t : FVec F S8192x512 .bf16) : FVec F S512x512 .f32 :=
  extf .f32 (Host.gather gather_S8192x512_S512x1_S512x512_1_0_n_n_0_1_1512 t (broadcastInDim S512x1 ![0] bcast_S512_S512x1_0
    (select (cmpi .slt ids (broadcastInDim S512 ![] bcast_S_S512 (constantI S_ 32 0#32)))
      (addi ids (broadcastInDim S512 ![] bcast_S_S512 (constantI S_ 32 8192#32))) ids))) bitsLt_bf16_f32

/-- Each row of it is the table's row of that id, widened. -/
theorem outRef_at (ids : IVec S512 32) (t : FVec F S8192x512 .bf16) (r y : Fin 512) (k : Fin 8192) (h : ids (ix1 r) = BitVec.ofNat 32 k.val) :
    outRef ids t (ix2 r y) = FloatOps.extf .f32 bitsLt_bf16_f32 (t (ix2 k y)) := by
  have hk := k.isLt
  unfold outRef extf
  refine congrArg (FloatOps.extf .f32 bitsLt_bf16_f32) ?_
  refine Routing.gather_row gather_S8192x512_S512x1_S512x512_1_0_n_n_0_1_1512 rfl rfl rfl rfl rfl t _ r y k ?_ (by norm_num)
  rw [broadcastInDim_apply _ _ _ _ (ix1 r) fun a => by fin_cases a; rfl]
  unfold select Scalar.select cmpi
  rw [broadcastInDim_scalar_apply, cmpi_slt_eq, h, toInt_ofNat_of_lt (by omega)]
  rw [decide_eq_false (by rw [show (constantI S_ 32 0#32 ix0).toInt = 0 from rfl]; omega), if_neg (by decide)]

/-- The precondition at one device: each id is a row of the table. -/
theorem ids_lt [Cert.Pre_ids_in_range_KernelIdeal.Facts] (ids : IVec S512 32) (t : FVec F ⟨2, ![4096, 512]⟩ .bf16)
    (h : Cert.Pre_ids_in_range_KernelIdeal.fn (F := F) ids t = fun _ => 1#1) (r : Fin 512) : (ids (ix1 r)).toNat < 8192 := by
  have e := congrFun h (ix1 r)
  simp only [Cert.Pre_ids_in_range_KernelIdeal.fn, andi, cmpi, IntOp.andi] at e
  rw [cmpi_sge_eq, cmpi_slt_eq, broadcastInDim_scalar_apply, broadcastInDim_scalar_apply] at e
  have both : ∀ p q : Bool, BitVec.ofBool p &&& BitVec.ofBool q = 1#1 → p = true ∧ q = true := by decide
  obtain ⟨h0, h1⟩ := both _ _ e
  have h0 : (0 : ℤ) ≤ (ids (ix1 r)).toInt := of_decide_eq_true h0
  have h1 : (ids (ix1 r)).toInt < 8192 := of_decide_eq_true h1
  have := BitVec.toInt_eq_toNat_cond (ids (ix1 r))
  have := (ids (ix1 r)).isLt
  split_ifs at * <;> omega

end Cert.ReferenceIdeal.Rows

end
-- ==== Proof.lean ====
/- The claims: the kernel and the reference run and leave what they were given as it was, and, the ids in range, every
   device's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem
open Idealize.ShloMosaic.ValueIdx (ix2 eq_ix2)
open Cert.KernelIdeal.Rows (run_main)

/-- The kernel runs, and leaves its arguments as they were and every counter at zero: read over exact numbers; -/
theorem frame_ideal : Cert.quiescent_KernelIdeal := fun m ρ _ =>
  (θ_run Cert.KernelIdeal.defs _ _).mono (fun _ h => ⟨fun c => (h.1 c).2, h.2⟩) (run_main (F := Ideal) m ρ)

/-- the two programs' kernel tables are one text, -/
theorem same_defs : Cert.Kernel.defs (F := Bits) = Cert.KernelIdeal.defs (F := Bits) := by chain_rfl

/-- so the same run is read over bit patterns. -/
theorem frame_kernel : Cert.quiescent_Kernel := fun m ρ _ => by
  rw [same_defs]
  exact (θ_run Cert.KernelIdeal.defs _ _).mono (fun _ h => ⟨fun c => (h.1 c).2, h.2⟩) (run_main (F := Bits) m ρ)

/-- The reference runs, leaves its arguments as they were, and has no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The precondition's one side condition. -/
instance pre_facts : Cert.Pre_ids_in_range_KernelIdeal.Facts := ⟨by decide⟩

/-- With the ids in range, every device ends with the reference's result. -/
theorem same_result : Cert.algebraic_KernelIdeal_ReferenceIdeal_pre_ids_in_range_KernelIdeal := by
  intro m ρ m' ρ' hpre hsame
  have lt := fun r => Cert.ReferenceIdeal.Rows.ids_lt _ _ (hpre 0) r
  rw [(hsame 0).1] at lt
  refine ⟨Cert.ReferenceIdeal.Rows.outRef (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩) (run_main (F := Ideal) m ρ)
    funext i
    rw [eq_ix2 i]
    refine (Cert.KernelIdeal.Rows.outOf_at m _ (fun c => (hsame c).1) (fun r => (BitVec.ofNat_toNat 32 _ |>.trans (BitVec.setWidth_eq _)).symm) lt
      (fun c => (hsame c).2) c (i 0) (i 1)).trans ?_
    exact (Cert.ReferenceIdeal.Rows.outRef_at _ _ (i 0) (i 1) ⟨_, lt (i 0)⟩ (BitVec.ofNat_toNat 32 _ |>.trans (BitVec.setWidth_eq _)).symm).symm
  · exact (θ_run Cert.ReferenceIdeal.defs _ _).mono (fun _ h => h 0) (Cert.ReferenceIdeal.Value.run m' ρ')

/-- Everything claimed. -/
theorem claim : Cert.Claim :=
  ⟨Cert.Kernel.Gen.facts, Cert.KernelIdeal.Gen.facts, Cert.ReferenceIdeal.Gen.facts, pre_facts, ⟨by decide⟩,
    frame_kernel, frame_ideal, fun m ρ _ => frame_ideal m ρ trivial, frame_reference, fun m ρ _ => frame_reference m ρ trivial,
    trivial, same_result⟩

end Cert.Proof

end
